-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_v309) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S4x2048x128 : Shape := ⟨3, ![4, 2048, 128]⟩
abbrev S4x2048 : Shape := ⟨2, ![4, 2048]⟩
abbrev S128x128 : Shape := ⟨2, ![128, 128]⟩
abbrev S128 : Shape := ⟨1, ![128]⟩
abbrev S2x128 : Shape := ⟨2, ![2, 128]⟩
abbrev S2x128x128 : Shape := ⟨3, ![2, 128, 128]⟩
abbrev S2x128x512 : Shape := ⟨3, ![2, 128, 512]⟩
abbrev S2x512 : Shape := ⟨2, ![2, 512]⟩
abbrev S2x512x128 : Shape := ⟨3, ![2, 512, 128]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : FVec F S4x2048x128 .f32) (main_arg1 : IVec S4x2048 32) (main_arg2 : FVec F S128x128 .f32) (main_arg3 : FVec F S128 .f32) (main_arg4 : FVec F S2x128 .f32) (main_arg5 : FVec F S2x128 .f32) (main_arg6 : FVec F S2x128x128 .f32) (main_arg7 : FVec F S2x128 .f32) (main_arg8 : FVec F S2x128x128 .f32) (main_arg9 : FVec F S2x128 .f32) (main_arg10 : FVec F S2x128x128 .f32) (main_arg11 : FVec F S2x128 .f32) (main_arg12 : FVec F S2x128x128 .f32) (main_arg13 : FVec F S2x128 .f32) (main_arg14 : FVec F S2x128 .f32) (main_arg15 : FVec F S2x128 .f32) (main_arg16 : FVec F S2x128x512 .f32) (main_arg17 : FVec F S2x512 .f32) (main_arg18 : FVec F S2x512x128 .f32) (main_arg19 : FVec F S2x128 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 128#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  main_v5
-- ==== Kernel.lean ====
abbrev S4x2048x128 : Shape := ⟨3, ![4, 2048, 128]⟩
abbrev S4x2048 : Shape := ⟨2, ![4, 2048]⟩
abbrev S128x128 : Shape := ⟨2, ![128, 128]⟩
abbrev S128 : Shape := ⟨1, ![128]⟩
abbrev S2x128 : Shape := ⟨2, ![2, 128]⟩
abbrev S2x128x128 : Shape := ⟨3, ![2, 128, 128]⟩
abbrev S2x128x512 : Shape := ⟨3, ![2, 128, 512]⟩
abbrev S2x512 : Shape := ⟨2, ![2, 512]⟩
abbrev S2x512x128 : Shape := ⟨3, ![2, 512, 128]⟩
abbrev S4x2048x1 : Shape := ⟨3, ![4, 2048, 1]⟩
abbrev S4x1x2048 : Shape := ⟨3, ![4, 1, 2048]⟩
abbrev S32x32 : Shape := ⟨2, ![32, 32]⟩
abbrev S_ : Shape := ⟨0, ![]⟩
abbrev S1x32 : Shape := ⟨2, ![1, 32]⟩
abbrev S32x1x32x1 : Shape := ⟨4, ![32, 1, 32, 1]⟩
abbrev S1x1x1x32 : Shape := ⟨4, ![1, 1, 1, 32]⟩
abbrev S32x1x32x32 : Shape := ⟨4, ![32, 1, 32, 32]⟩
abbrev S32x1024 : Shape := ⟨2, ![32, 1024]⟩
abbrev S1024x32 : Shape := ⟨2, ![1024, 32]⟩
abbrev S4x4 : Shape := ⟨2, ![4, 4]⟩
abbrev S4x1x4x1 : Shape := ⟨4, ![4, 1, 4, 1]⟩
abbrev S1x32x1x1024 : Shape := ⟨4, ![1, 32, 1, 1024]⟩
abbrev S4x32x4x1024 : Shape := ⟨4, ![4, 32, 4, 1024]⟩
abbrev S128x4096 : Shape := ⟨2, ![128, 4096]⟩
abbrev S2x128x4096 : Shape := ⟨3, ![2, 128, 4096]⟩
abbrev S2x4096 : Shape := ⟨2, ![2, 4096]⟩
abbrev S2x1x4096 : Shape := ⟨3, ![2, 1, 4096]⟩
abbrev S32x1 : Shape := ⟨2, ![32, 1]⟩
abbrev S1x32x1x1 : Shape := ⟨4, ![1, 32, 1, 1]⟩
abbrev S4x32x4x1 : Shape := ⟨4, ![4, 32, 4, 1]⟩
abbrev S128x4 : Shape := ⟨2, ![128, 4]⟩
abbrev S1x128 : Shape := ⟨2, ![1, 128]⟩
abbrev S2x1x128 : Shape := ⟨3, ![2, 1, 128]⟩
abbrev S2x1x512 : Shape := ⟨3, ![2, 1, 512]⟩
abbrev S4x128x128 : Shape := ⟨3, ![4, 128, 128]⟩
abbrev S1x2048x128 : Shape := ⟨3, ![1, 2048, 128]⟩
abbrev S1x2048x1 : Shape := ⟨3, ![1, 2048, 1]⟩
abbrev S1x1x2048 : Shape := ⟨3, ![1, 1, 2048]⟩
abbrev S1x128x128 : Shape := ⟨3, ![1, 128, 128]⟩
abbrev S2048x128 : Shape := ⟨2, ![2048, 128]⟩
abbrev S2048x1 : Shape := ⟨2, ![2048, 1]⟩
abbrev S1x2048 : Shape := ⟨2, ![1, 2048]⟩
abbrev S128x2048 : Shape := ⟨2, ![128, 2048]⟩
abbrev S1x1x128 : Shape := ⟨3, ![1, 1, 128]⟩
abbrev S2048 : Shape := ⟨1, ![2048]⟩
abbrev S1x128x4096 : Shape := ⟨3, ![1, 128, 4096]⟩
abbrev S2048x4096 : Shape := ⟨2, ![2048, 4096]⟩
abbrev S1x1x4096 : Shape := ⟨3, ![1, 1, 4096]⟩
abbrev S1x4096 : Shape := ⟨2, ![1, 4096]⟩
abbrev S2048x32 : Shape := ⟨2, ![2048, 32]⟩
abbrev S2048x1024 : Shape := ⟨2, ![2048, 1024]⟩
abbrev S128x1024 : Shape := ⟨2, ![128, 1024]⟩
abbrev S128x4224 : Shape := ⟨2, ![128, 4224]⟩
abbrev S2048x4224 : Shape := ⟨2, ![2048, 4224]⟩
abbrev S2048x4 : Shape := ⟨2, ![2048, 4]⟩
abbrev S1x128x512 : Shape := ⟨3, ![1, 128, 512]⟩
abbrev S128x512 : Shape := ⟨2, ![128, 512]⟩
abbrev S2048x512 : Shape := ⟨2, ![2048, 512]⟩
abbrev S1x1x512 : Shape := ⟨3, ![1, 1, 512]⟩
abbrev S1x512 : Shape := ⟨2, ![1, 512]⟩
abbrev S1x512x128 : Shape := ⟨3, ![1, 512, 128]⟩
abbrev S512x128 : Shape := ⟨2, ![512, 128]⟩
abbrev S128x1 : Shape := ⟨2, ![128, 1]⟩

abbrev nBuf : Space → Nat
  | .hbm => 81
  | .vmem => 30
  | .smem => 0
  | _ => 0

abbrev bufTy : (tb : Table) → Fin (tcTables nBuf tb) → BufTy
  | .hbm, ⟨0, _⟩ => ⟨S4x2048x128, .f32⟩
  | .hbm, ⟨1, _⟩ => ⟨S4x2048, .i32⟩
  | .hbm, ⟨2, _⟩ => ⟨S128x128, .f32⟩
  | .hbm, ⟨3, _⟩ => ⟨S128, .f32⟩
  | .hbm, ⟨4, _⟩ => ⟨S2x128, .f32⟩
  | .hbm, ⟨5, _⟩ => ⟨S2x128, .f32⟩
  | .hbm, ⟨6, _⟩ => ⟨S2x128x128, .f32⟩
  | .hbm, ⟨7, _⟩ => ⟨S2x128, .f32⟩
  | .hbm, ⟨8, _⟩ => ⟨S2x128x128, .f32⟩
  | .hbm, ⟨9, _⟩ => ⟨S2x128, .f32⟩
  | .hbm, ⟨10, _⟩ => ⟨S2x128x128, .f32⟩
  | .hbm, ⟨11, _⟩ => ⟨S2x128, .f32⟩
  | .hbm, ⟨12, _⟩ => ⟨S2x128x128, .f32⟩
  | .hbm, ⟨13, _⟩ => ⟨S2x128, .f32⟩
  | .hbm, ⟨14, _⟩ => ⟨S2x128, .f32⟩
  | .hbm, ⟨15, _⟩ => ⟨S2x128, .f32⟩
  | .hbm, ⟨16, _⟩ => ⟨S2x128x512, .f32⟩
  | .hbm, ⟨17, _⟩ => ⟨S2x512, .f32⟩
  | .hbm, ⟨18, _⟩ => ⟨S2x512x128, .f32⟩
  | .hbm, ⟨19, _⟩ => ⟨S2x128, .f32⟩
  | .hbm, ⟨20, _⟩ => ⟨S4x2048x1, .i32⟩
  | .hbm, ⟨21, _⟩ => ⟨S4x1x2048, .i32⟩
  | .hbm, ⟨22, _⟩ => ⟨S32x32, .i32⟩
  | .hbm, ⟨23, _⟩ => ⟨S32x32, .i32⟩
  | .hbm, ⟨24, _⟩ => ⟨S_, .i32⟩
  | .hbm, ⟨25, _⟩ => ⟨S32x32, .i32⟩
  | .hbm, ⟨26, _⟩ => ⟨S32x32, .i32⟩
  | .hbm, ⟨27, _⟩ => ⟨S32x32, .i1⟩
  | .hbm, ⟨28, _⟩ => ⟨S32x32, .f32⟩
  | .hbm, ⟨29, _⟩ => ⟨S_, .f32⟩
  | .hbm, ⟨30, _⟩ => ⟨S1x32, .f32⟩
  | .hbm, ⟨31, _⟩ => ⟨S32x1x32x1, .f32⟩
  | .hbm, ⟨32, _⟩ => ⟨S1x1x1x32, .f32⟩
  | .hbm, ⟨33, _⟩ => ⟨S32x1x32x32, .f32⟩
  | .hbm, ⟨34, _⟩ => ⟨S32x1x32x32, .f32⟩
  | .hbm, ⟨35, _⟩ => ⟨S32x1x32x32, .f32⟩
  | .hbm, ⟨36, _⟩ => ⟨S32x1024, .f32⟩
  | .hbm, ⟨37, _⟩ => ⟨S1024x32, .f32⟩
  | .hbm, ⟨38, _⟩ => ⟨S4x4, .i32⟩
  | .hbm, ⟨39, _⟩ => ⟨S4x4, .i32⟩
  | .hbm, ⟨40, _⟩ => ⟨S_, .i32⟩
  | .hbm, ⟨41, _⟩ => ⟨S4x4, .i32⟩
  | .hbm, ⟨42, _⟩ => ⟨S4x4, .i32⟩
  | .hbm, ⟨43, _⟩ => ⟨S4x4, .i1⟩
  | .hbm, ⟨44, _⟩ => ⟨S4x4, .f32⟩
  | .hbm, ⟨45, _⟩ => ⟨S4x1x4x1, .f32⟩
  | .hbm, ⟨46, _⟩ => ⟨S1x32x1x1024, .f32⟩
  | .hbm, ⟨47, _⟩ => ⟨S4x32x4x1024, .f32⟩
  | .hbm, ⟨48, _⟩ => ⟨S4x32x4x1024, .f32⟩
  | .hbm, ⟨49, _⟩ => ⟨S4x32x4x1024, .f32⟩
  | .hbm, ⟨50, _⟩ => ⟨S128x4096, .f32⟩
  | .hbm, ⟨51, _⟩ => ⟨S2x128x4096, .f32⟩
  | .hbm, ⟨52, _⟩ => ⟨S2x4096, .f32⟩
  | .hbm, ⟨53, _⟩ => ⟨S2x1x4096, .f32⟩
  | .hbm, ⟨54, _⟩ => ⟨S4x4, .i32⟩
  | .hbm, ⟨55, _⟩ => ⟨S4x4, .i32⟩
  | .hbm, ⟨56, _⟩ => ⟨S_, .i32⟩
  | .hbm, ⟨57, _⟩ => ⟨S4x4, .i32⟩
  | .hbm, ⟨58, _⟩ => ⟨S4x4, .i32⟩
  | .hbm, ⟨59, _⟩ => ⟨S4x4, .i1⟩
  | .hbm, ⟨60, _⟩ => ⟨S4x4, .f32⟩
  | .hbm, ⟨61, _⟩ => ⟨S_, .f32⟩
  | .hbm, ⟨62, _⟩ => ⟨S32x1, .f32⟩
  | .hbm, ⟨63, _⟩ => ⟨S4x1x4x1, .f32⟩
  | .hbm, ⟨64, _⟩ => ⟨S1x32x1x1, .f32⟩
  | .hbm, ⟨65, _⟩ => ⟨S4x32x4x1, .f32⟩
  | .hbm, ⟨66, _⟩ => ⟨S4x32x4x1, .f32⟩
  | .hbm, ⟨67, _⟩ => ⟨S4x32x4x1, .f32⟩
  | .hbm, ⟨68, _⟩ => ⟨S128x4, .f32⟩
  | .hbm, ⟨69, _⟩ => ⟨S1x128, .f32⟩
  | .hbm, ⟨70, _⟩ => ⟨S2x1x128, .f32⟩
  | .hbm, ⟨71, _⟩ => ⟨S2x1x128, .f32⟩
  | .hbm, ⟨72, _⟩ => ⟨S2x1x128, .f32⟩
  | .hbm, ⟨73, _⟩ => ⟨S2x1x128, .f32⟩
  | .hbm, ⟨74, _⟩ => ⟨S2x1x128, .f32⟩
  | .hbm, ⟨75, _⟩ => ⟨S2x1x128, .f32⟩
  | .hbm, ⟨76, _⟩ => ⟨S2x1x128, .f32⟩
  | .hbm, ⟨77, _⟩ => ⟨S2x1x512, .f32⟩
  | .hbm, ⟨78, _⟩ => ⟨S2x1x128, .f32⟩
  | .hbm, ⟨79, _⟩ => ⟨S4x2048x128, .f32⟩
  | .hbm, ⟨80, _⟩ => ⟨S4x128x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x1, .i32⟩
  | .local _ .vmem, ⟨3, _⟩ => ⟨S1x2048x1, .i32⟩
  | .local _ .vmem, ⟨4, _⟩ => ⟨S1x1x2048, .i32⟩
  | .local _ .vmem, ⟨5, _⟩ => ⟨S1x1x2048, .i32⟩
  | .local _ .vmem, ⟨6, _⟩ => ⟨S128x128, .f32⟩
  | .local _ .vmem, ⟨7, _⟩ => ⟨S1x128, .f32⟩
  | .local _ .vmem, ⟨8, _⟩ => ⟨S2x1x128, .f32⟩
  | .local _ .vmem, ⟨9, _⟩ => ⟨S2x1x128, .f32⟩
  | .local _ .vmem, ⟨10, _⟩ => ⟨S2x128x128, .f32⟩
  | .local _ .vmem, ⟨11, _⟩ => ⟨S2x1x128, .f32⟩
  | .local _ .vmem, ⟨12, _⟩ => ⟨S2x128x128, .f32⟩
  | .local _ .vmem, ⟨13, _⟩ => ⟨S2x1x128, .f32⟩
  | .local _ .vmem, ⟨14, _⟩ => ⟨S2x128x4096, .f32⟩
  | .local _ .vmem, ⟨15, _⟩ => ⟨S2x1x4096, .f32⟩
  | .local _ .vmem, ⟨16, _⟩ => ⟨S2x128x128, .f32⟩
  | .local _ .vmem, ⟨17, _⟩ => ⟨S2x1x128, .f32⟩
  | .local _ .vmem, ⟨18, _⟩ => ⟨S2x1x128, .f32⟩
  | .local _ .vmem, ⟨19, _⟩ => ⟨S2x1x128, .f32⟩
  | .local _ .vmem, ⟨20, _⟩ => ⟨S2x128x512, .f32⟩
  | .local _ .vmem, ⟨21, _⟩ => ⟨S2x1x512, .f32⟩
  | .local _ .vmem, ⟨22, _⟩ => ⟨S2x512x128, .f32⟩
  | .local _ .vmem, ⟨23, _⟩ => ⟨S2x1x128, .f32⟩
  | .local _ .vmem, ⟨24, _⟩ => ⟨S1024x32, .f32⟩
  | .local _ .vmem, ⟨25, _⟩ => ⟨S128x4, .f32⟩
  | .local _ .vmem, ⟨26, _⟩ => ⟨S1x2048x128, .f32⟩
  | .local _ .vmem, ⟨27, _⟩ => ⟨S1x2048x128, .f32⟩
  | .local _ .vmem, ⟨28, _⟩ => ⟨S1x128x128, .f32⟩
  | .local _ .vmem, ⟨29, _⟩ => ⟨S1x128x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_1 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_v27 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39_0 : Ref sig .tc := ⟨.hbm, 79, rfl⟩
abbrev main_v39_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg23_1 : Ref sig .tc := ⟨.vmem, 27, rfl⟩
abbrev cc0_stg24_0 : Ref sig .tc := ⟨.vmem, 28, rfl⟩
abbrev cc0_stg24_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem23_1 : DmaSem sig := 27
abbrev cc0_sem24_0 : DmaSem sig := 28
abbrev cc0_sem24_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x512x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x32 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x4 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x2048x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ReferenceIdeal.lean ====
abbrev S4x2048x128 : Shape := ⟨3, ![4, 2048, 128]⟩
abbrev S4x2048 : Shape := ⟨2, ![4, 2048]⟩
abbrev S128x128 : Shape := ⟨2, ![128, 128]⟩
abbrev S128 : Shape := ⟨1, ![128]⟩
abbrev S2x128 : Shape := ⟨2, ![2, 128]⟩
abbrev S2x128x128 : Shape := ⟨3, ![2, 128, 128]⟩
abbrev S2x128x512 : Shape := ⟨3, ![2, 128, 512]⟩
abbrev S2x512 : Shape := ⟨2, ![2, 512]⟩
abbrev S2x512x128 : Shape := ⟨3, ![2, 512, 128]⟩
abbrev S4 : Shape := ⟨1, ![4]⟩
abbrev S4x1 : Shape := ⟨2, ![4, 1]⟩
abbrev S_ : Shape := ⟨0, ![]⟩
abbrev S8192 : Shape := ⟨1, ![8192]⟩
abbrev S1x1x128 : Shape := ⟨3, ![1, 1, 128]⟩
abbrev S8192x128 : Shape := ⟨2, ![8192, 128]⟩
abbrev S1x128 : Shape := ⟨2, ![1, 128]⟩
abbrev S8192x1 : Shape := ⟨2, ![8192, 1]⟩
abbrev S1x128x128 : Shape := ⟨3, ![1, 128, 128]⟩
abbrev S8192x4x32 : Shape := ⟨3, ![8192, 4, 32]⟩
abbrev S8192x4x32x1 : Shape := ⟨4, ![8192, 4, 32, 1]⟩
abbrev S8192x4x1x32 : Shape := ⟨4, ![8192, 4, 1, 32]⟩
abbrev S8192x4x32x32 : Shape := ⟨4, ![8192, 4, 32, 32]⟩
abbrev S8192x4096 : Shape := ⟨2, ![8192, 4096]⟩
abbrev S512x4096 : Shape := ⟨2, ![512, 4096]⟩
abbrev S512x128 : Shape := ⟨2, ![512, 128]⟩
abbrev S8192x4 : Shape := ⟨2, ![8192, 4]⟩
abbrev S8192x4x1 : Shape := ⟨3, ![8192, 4, 1]⟩
abbrev S1x128x512 : Shape := ⟨3, ![1, 128, 512]⟩
abbrev S128x512 : Shape := ⟨2, ![128, 512]⟩
abbrev S8192x512 : Shape := ⟨2, ![8192, 512]⟩
abbrev S1x512 : Shape := ⟨2, ![1, 512]⟩
abbrev S512 : Shape := ⟨1, ![512]⟩
abbrev S1x512x128 : Shape := ⟨3, ![1, 512, 128]⟩
abbrev S512x1 : Shape := ⟨2, ![512, 1]⟩
abbrev S4x128x128 : Shape := ⟨3, ![4, 128, 128]⟩

abbrev nBuf : Space → Nat
  | .hbm => 519
  | .vmem => 0
  | .smem => 0
  | _ => 0

abbrev hbmTy0_0 (i : Nat) : BufTy := match i % 128 with
  | 0 => ⟨S4x2048x128, .f32⟩
  | 1 => ⟨S4x2048, .i32⟩
  | 2 => ⟨S128x128, .f32⟩
  | 3 => ⟨S128, .f32⟩
  | 4 => ⟨S2x128, .f32⟩
  | 5 => ⟨S2x128, .f32⟩
  | 6 => ⟨S2x128x128, .f32⟩
  | 7 => ⟨S2x128, .f32⟩
  | 8 => ⟨S2x128x128, .f32⟩
  | 9 => ⟨S2x128, .f32⟩
  | 10 => ⟨S2x128x128, .f32⟩
  | 11 => ⟨S2x128, .f32⟩
  | 12 => ⟨S2x128x128, .f32⟩
  | 13 => ⟨S2x128, .f32⟩
  | 14 => ⟨S2x128, .f32⟩
  | 15 => ⟨S2x128, .f32⟩
  | 16 => ⟨S2x128x512, .f32⟩
  | 17 => ⟨S2x512, .f32⟩
  | 18 => ⟨S2x512x128, .f32⟩
  | 19 => ⟨S2x128, .f32⟩
  | 20 => ⟨S4, .i32⟩
  | 21 => ⟨S4x1, .i32⟩
  | 22 => ⟨S_, .i32⟩
  | 23 => ⟨S4x1, .i32⟩
  | 24 => ⟨S4x1, .i32⟩
  | 25 => ⟨S4x2048, .i32⟩
  | 26 => ⟨S4x2048, .i32⟩
  | 27 => ⟨S8192, .i32⟩
  | 28 => ⟨S4x2048x128, .f32⟩
  | 29 => ⟨S1x1x128, .f32⟩
  | 30 => ⟨S4x2048x128, .f32⟩
  | 31 => ⟨S4x2048x128, .f32⟩
  | 32 => ⟨S8192x128, .f32⟩
  | 33 => ⟨S1x128, .f32⟩
  | 34 => ⟨S128, .f32⟩
  | 35 => ⟨S1x128, .f32⟩
  | 36 => ⟨S128, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S_, .i32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S8192x128, .f32⟩
  | 51 => ⟨S8192x128, .f32⟩
  | 52 => ⟨S8192x128, .f32⟩
  | 53 => ⟨S_, .f32⟩
  | 54 => ⟨S_, .f32⟩
  | 55 => ⟨S_, .f32⟩
  | 56 => ⟨S_, .f32⟩
  | 57 => ⟨S8192, .f32⟩
  | 58 => ⟨S8192x1, .f32⟩
  | 59 => ⟨S8192x1, .f32⟩
  | 60 => ⟨S8192x1, .f32⟩
  | 61 => ⟨S_, .f32⟩
  | 62 => ⟨S_, .i1⟩
  | 63 => ⟨S_, .f32⟩
  | 64 => ⟨S_, .f32⟩
  | 65 => ⟨S8192x1, .f32⟩
  | 66 => ⟨S8192x1, .f32⟩
  | 67 => ⟨S8192x128, .f32⟩
  | 68 => ⟨S8192x128, .f32⟩
  | 69 => ⟨S_, .f32⟩
  | 70 => ⟨S8192x1, .f32⟩
  | 71 => ⟨S8192x1, .f32⟩
  | 72 => ⟨S8192x1, .f32⟩
  | 73 => ⟨S8192x128, .f32⟩
  | 74 => ⟨S8192x128, .f32⟩
  | 75 => ⟨S1x128, .f32⟩
  | 76 => ⟨S8192x128, .f32⟩
  | 77 => ⟨S8192x128, .f32⟩
  | 78 => ⟨S1x128, .f32⟩
  | 79 => ⟨S8192x128, .f32⟩
  | 80 => ⟨S8192x128, .f32⟩
  | 81 => ⟨S1x128x128, .f32⟩
  | 82 => ⟨S128x128, .f32⟩
  | 83 => ⟨S8192x128, .f32⟩
  | 84 => ⟨S1x128, .f32⟩
  | 85 => ⟨S128, .f32⟩
  | 86 => ⟨S1x128, .f32⟩
  | 87 => ⟨S8192x128, .f32⟩
  | 88 => ⟨S8192x128, .f32⟩
  | 89 => ⟨S8192x4x32, .f32⟩
  | 90 => ⟨S1x128x128, .f32⟩
  | 91 => ⟨S128x128, .f32⟩
  | 92 => ⟨S8192x128, .f32⟩
  | 93 => ⟨S1x128, .f32⟩
  | 94 => ⟨S128, .f32⟩
  | 95 => ⟨S1x128, .f32⟩
  | 96 => ⟨S8192x128, .f32⟩
  | 97 => ⟨S8192x128, .f32⟩
  | 98 => ⟨S8192x4x32, .f32⟩
  | 99 => ⟨S1x128x128, .f32⟩
  | 100 => ⟨S128x128, .f32⟩
  | 101 => ⟨S8192x128, .f32⟩
  | 102 => ⟨S1x128, .f32⟩
  | 103 => ⟨S128, .f32⟩
  | 104 => ⟨S1x128, .f32⟩
  | 105 => ⟨S8192x128, .f32⟩
  | 106 => ⟨S8192x128, .f32⟩
  | 107 => ⟨S8192x4x32, .f32⟩
  | 108 => ⟨S_, .f32⟩
  | 109 => ⟨S8192x4x32, .f32⟩
  | 110 => ⟨S8192x4x32, .i1⟩
  | 111 => ⟨S_, .f32⟩
  | 112 => ⟨S8192x4x32, .f32⟩
  | 113 => ⟨S8192x4x32, .i1⟩
  | 114 => ⟨S_, .f32⟩
  | 115 => ⟨S_, .f32⟩
  | 116 => ⟨S8192x4x32, .f32⟩
  | 117 => ⟨S8192x4x32, .f32⟩
  | 118 => ⟨S8192x4x32, .f32⟩
  | 119 => ⟨S_, .f32⟩
  | 120 => ⟨S8192x4x32, .f32⟩
  | 121 => ⟨S8192x4x32, .f32⟩
  | 122 => ⟨S8192x4x32, .f32⟩
  | 123 => ⟨S_, .f32⟩
  | 124 => ⟨S8192x4x32, .f32⟩
  | 125 => ⟨S8192x4x32, .f32⟩
  | 126 => ⟨S_, .f32⟩
  | 127 => ⟨S8192x4x32, .f32⟩
  | _ => ⟨S4x2048x128, .f32⟩

abbrev hbmTy0_1 (i : Nat) : BufTy := match i % 128 with
  | 0 => ⟨S8192x4x32, .i1⟩
  | 1 => ⟨S_, .f32⟩
  | 2 => ⟨S8192x4x32, .f32⟩
  | 3 => ⟨S8192x4x32, .i1⟩
  | 4 => ⟨S_, .f32⟩
  | 5 => ⟨S_, .f32⟩
  | 6 => ⟨S8192x4x32, .f32⟩
  | 7 => ⟨S8192x4x32, .f32⟩
  | 8 => ⟨S8192x4x32, .f32⟩
  | 9 => ⟨S_, .f32⟩
  | 10 => ⟨S8192x4x32, .f32⟩
  | 11 => ⟨S8192x4x32, .f32⟩
  | 12 => ⟨S8192x4x32, .f32⟩
  | 13 => ⟨S_, .f32⟩
  | 14 => ⟨S8192x4x32, .f32⟩
  | 15 => ⟨S8192x4x32, .f32⟩
  | 16 => ⟨S8192x4x32x1, .f32⟩
  | 17 => ⟨S8192x4x1x32, .f32⟩
  | 18 => ⟨S8192x4x32x32, .f32⟩
  | 19 => ⟨S8192x4x32x32, .f32⟩
  | 20 => ⟨S8192x4x32x32, .f32⟩
  | 21 => ⟨S8192x4096, .f32⟩
  | 22 => ⟨S_, .f32⟩
  | 23 => ⟨S512x4096, .f32⟩
  | 24 => ⟨S8192x1, .i32⟩
  | 25 => ⟨S512x4096, .f32⟩
  | 26 => ⟨S8192x128, .f32⟩
  | 27 => ⟨S_, .f32⟩
  | 28 => ⟨S512x128, .f32⟩
  | 29 => ⟨S8192x1, .i32⟩
  | 30 => ⟨S512x128, .f32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S8192x4096, .f32⟩
  | 40 => ⟨S8192x4x32x32, .f32⟩
  | 41 => ⟨S_, .i32⟩
  | 42 => ⟨S8192, .i32⟩
  | 43 => ⟨S8192, .i1⟩
  | 44 => ⟨S_, .i32⟩
  | 45 => ⟨S8192, .i32⟩
  | 46 => ⟨S8192, .i32⟩
  | 47 => ⟨S8192, .i32⟩
  | 48 => ⟨S8192x1, .i32⟩
  | 49 => ⟨S8192x128, .f32⟩
  | 50 => ⟨S8192x4x32, .f32⟩
  | 51 => ⟨S8192x4x32, .f32⟩
  | 52 => ⟨S8192x4x32, .f32⟩
  | 53 => ⟨S_, .f32⟩
  | 54 => ⟨S8192x4, .f32⟩
  | 55 => ⟨S8192x4x1, .f32⟩
  | 56 => ⟨S_, .f32⟩
  | 57 => ⟨S8192x4x1, .f32⟩
  | 58 => ⟨S8192x4x1, .f32⟩
  | 59 => ⟨S8192x4x32, .f32⟩
  | 60 => ⟨S8192x4x32, .f32⟩
  | 61 => ⟨S8192x128, .f32⟩
  | 62 => ⟨S1x128x128, .f32⟩
  | 63 => ⟨S128x128, .f32⟩
  | 64 => ⟨S8192x128, .f32⟩
  | 65 => ⟨S8192x128, .f32⟩
  | 66 => ⟨S1x128, .f32⟩
  | 67 => ⟨S128, .f32⟩
  | 68 => ⟨S1x128, .f32⟩
  | 69 => ⟨S8192x128, .f32⟩
  | 70 => ⟨S8192x128, .f32⟩
  | 71 => ⟨S1x128, .f32⟩
  | 72 => ⟨S128, .f32⟩
  | 73 => ⟨S1x128, .f32⟩
  | 74 => ⟨S128, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .i32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S8192x128, .f32⟩
  | 89 => ⟨S8192x128, .f32⟩
  | 90 => ⟨S8192x128, .f32⟩
  | 91 => ⟨S_, .f32⟩
  | 92 => ⟨S_, .f32⟩
  | 93 => ⟨S_, .f32⟩
  | 94 => ⟨S_, .f32⟩
  | 95 => ⟨S8192, .f32⟩
  | 96 => ⟨S8192x1, .f32⟩
  | 97 => ⟨S8192x1, .f32⟩
  | 98 => ⟨S8192x1, .f32⟩
  | 99 => ⟨S_, .f32⟩
  | 100 => ⟨S_, .i1⟩
  | 101 => ⟨S_, .f32⟩
  | 102 => ⟨S_, .f32⟩
  | 103 => ⟨S8192x1, .f32⟩
  | 104 => ⟨S8192x1, .f32⟩
  | 105 => ⟨S8192x128, .f32⟩
  | 106 => ⟨S8192x128, .f32⟩
  | 107 => ⟨S_, .f32⟩
  | 108 => ⟨S8192x1, .f32⟩
  | 109 => ⟨S8192x1, .f32⟩
  | 110 => ⟨S8192x1, .f32⟩
  | 111 => ⟨S8192x128, .f32⟩
  | 112 => ⟨S8192x128, .f32⟩
  | 113 => ⟨S1x128, .f32⟩
  | 114 => ⟨S8192x128, .f32⟩
  | 115 => ⟨S8192x128, .f32⟩
  | 116 => ⟨S1x128, .f32⟩
  | 117 => ⟨S8192x128, .f32⟩
  | 118 => ⟨S8192x128, .f32⟩
  | 119 => ⟨S1x128x512, .f32⟩
  | 120 => ⟨S128x512, .f32⟩
  | 121 => ⟨S8192x512, .f32⟩
  | 122 => ⟨S1x512, .f32⟩
  | 123 => ⟨S512, .f32⟩
  | 124 => ⟨S1x512, .f32⟩
  | 125 => ⟨S8192x512, .f32⟩
  | 126 => ⟨S8192x512, .f32⟩
  | 127 => ⟨S_, .f32⟩
  | _ => ⟨S4x2048x128, .f32⟩

abbrev hbmTy0_2 (i : Nat) : BufTy := match i % 128 with
  | 0 => ⟨S8192x512, .f32⟩
  | 1 => ⟨S8192x512, .f32⟩
  | 2 => ⟨S1x512x128, .f32⟩
  | 3 => ⟨S512x128, .f32⟩
  | 4 => ⟨S8192x128, .f32⟩
  | 5 => ⟨S8192x128, .f32⟩
  | 6 => ⟨S1x128, .f32⟩
  | 7 => ⟨S128, .f32⟩
  | 8 => ⟨S1x128, .f32⟩
  | 9 => ⟨S8192x128, .f32⟩
  | 10 => ⟨S8192x128, .f32⟩
  | 11 => ⟨S1x128, .f32⟩
  | 12 => ⟨S128, .f32⟩
  | 13 => ⟨S1x128, .f32⟩
  | 14 => ⟨S128, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .i32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S8192x128, .f32⟩
  | 29 => ⟨S8192x128, .f32⟩
  | 30 => ⟨S8192x128, .f32⟩
  | 31 => ⟨S_, .f32⟩
  | 32 => ⟨S_, .f32⟩
  | 33 => ⟨S_, .f32⟩
  | 34 => ⟨S_, .f32⟩
  | 35 => ⟨S8192, .f32⟩
  | 36 => ⟨S8192x1, .f32⟩
  | 37 => ⟨S8192x1, .f32⟩
  | 38 => ⟨S8192x1, .f32⟩
  | 39 => ⟨S_, .f32⟩
  | 40 => ⟨S_, .i1⟩
  | 41 => ⟨S_, .f32⟩
  | 42 => ⟨S_, .f32⟩
  | 43 => ⟨S8192x1, .f32⟩
  | 44 => ⟨S8192x1, .f32⟩
  | 45 => ⟨S8192x128, .f32⟩
  | 46 => ⟨S8192x128, .f32⟩
  | 47 => ⟨S_, .f32⟩
  | 48 => ⟨S8192x1, .f32⟩
  | 49 => ⟨S8192x1, .f32⟩
  | 50 => ⟨S8192x1, .f32⟩
  | 51 => ⟨S8192x128, .f32⟩
  | 52 => ⟨S8192x128, .f32⟩
  | 53 => ⟨S1x128, .f32⟩
  | 54 => ⟨S8192x128, .f32⟩
  | 55 => ⟨S8192x128, .f32⟩
  | 56 => ⟨S1x128, .f32⟩
  | 57 => ⟨S8192x128, .f32⟩
  | 58 => ⟨S8192x128, .f32⟩
  | 59 => ⟨S1x128x128, .f32⟩
  | 60 => ⟨S128x128, .f32⟩
  | 61 => ⟨S8192x128, .f32⟩
  | 62 => ⟨S1x128, .f32⟩
  | 63 => ⟨S128, .f32⟩
  | 64 => ⟨S1x128, .f32⟩
  | 65 => ⟨S8192x128, .f32⟩
  | 66 => ⟨S8192x128, .f32⟩
  | 67 => ⟨S8192x4x32, .f32⟩
  | 68 => ⟨S1x128x128, .f32⟩
  | 69 => ⟨S128x128, .f32⟩
  | 70 => ⟨S8192x128, .f32⟩
  | 71 => ⟨S1x128, .f32⟩
  | 72 => ⟨S128, .f32⟩
  | 73 => ⟨S1x128, .f32⟩
  | 74 => ⟨S8192x128, .f32⟩
  | 75 => ⟨S8192x128, .f32⟩
  | 76 => ⟨S8192x4x32, .f32⟩
  | 77 => ⟨S1x128x128, .f32⟩
  | 78 => ⟨S128x128, .f32⟩
  | 79 => ⟨S8192x128, .f32⟩
  | 80 => ⟨S1x128, .f32⟩
  | 81 => ⟨S128, .f32⟩
  | 82 => ⟨S1x128, .f32⟩
  | 83 => ⟨S8192x128, .f32⟩
  | 84 => ⟨S8192x128, .f32⟩
  | 85 => ⟨S8192x4x32, .f32⟩
  | 86 => ⟨S_, .f32⟩
  | 87 => ⟨S8192x4x32, .f32⟩
  | 88 => ⟨S8192x4x32, .i1⟩
  | 89 => ⟨S_, .f32⟩
  | 90 => ⟨S8192x4x32, .f32⟩
  | 91 => ⟨S8192x4x32, .i1⟩
  | 92 => ⟨S_, .f32⟩
  | 93 => ⟨S_, .f32⟩
  | 94 => ⟨S8192x4x32, .f32⟩
  | 95 => ⟨S8192x4x32, .f32⟩
  | 96 => ⟨S8192x4x32, .f32⟩
  | 97 => ⟨S_, .f32⟩
  | 98 => ⟨S8192x4x32, .f32⟩
  | 99 => ⟨S8192x4x32, .f32⟩
  | 100 => ⟨S8192x4x32, .f32⟩
  | 101 => ⟨S_, .f32⟩
  | 102 => ⟨S8192x4x32, .f32⟩
  | 103 => ⟨S8192x4x32, .f32⟩
  | 104 => ⟨S_, .f32⟩
  | 105 => ⟨S8192x4x32, .f32⟩
  | 106 => ⟨S8192x4x32, .i1⟩
  | 107 => ⟨S_, .f32⟩
  | 108 => ⟨S8192x4x32, .f32⟩
  | 109 => ⟨S8192x4x32, .i1⟩
  | 110 => ⟨S_, .f32⟩
  | 111 => ⟨S_, .f32⟩
  | 112 => ⟨S8192x4x32, .f32⟩
  | 113 => ⟨S8192x4x32, .f32⟩
  | 114 => ⟨S8192x4x32, .f32⟩
  | 115 => ⟨S_, .f32⟩
  | 116 => ⟨S8192x4x32, .f32⟩
  | 117 => ⟨S8192x4x32, .f32⟩
  | 118 => ⟨S8192x4x32, .f32⟩
  | 119 => ⟨S_, .f32⟩
  | 120 => ⟨S8192x4x32, .f32⟩
  | 121 => ⟨S8192x4x32, .f32⟩
  | 122 => ⟨S8192x4x32x1, .f32⟩
  | 123 => ⟨S8192x4x1x32, .f32⟩
  | 124 => ⟨S8192x4x32x32, .f32⟩
  | 125 => ⟨S8192x4x32x32, .f32⟩
  | 126 => ⟨S8192x4x32x32, .f32⟩
  | 127 => ⟨S8192x4096, .f32⟩
  | _ => ⟨S4x2048x128, .f32⟩

abbrev hbmTy0_3 (i : Nat) : BufTy := match i % 128 with
  | 0 => ⟨S_, .f32⟩
  | 1 => ⟨S512x4096, .f32⟩
  | 2 => ⟨S8192x1, .i32⟩
  | 3 => ⟨S512x4096, .f32⟩
  | 4 => ⟨S8192x128, .f32⟩
  | 5 => ⟨S_, .f32⟩
  | 6 => ⟨S512x128, .f32⟩
  | 7 => ⟨S8192x1, .i32⟩
  | 8 => ⟨S512x128, .f32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192x4096, .f32⟩
  | 18 => ⟨S8192x4x32x32, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x128, .f32⟩
  | 28 => ⟨S8192x4x32, .f32⟩
  | 29 => ⟨S8192x4x32, .f32⟩
  | 30 => ⟨S8192x4x32, .f32⟩
  | 31 => ⟨S_, .f32⟩
  | 32 => ⟨S8192x4, .f32⟩
  | 33 => ⟨S8192x4x1, .f32⟩
  | 34 => ⟨S_, .f32⟩
  | 35 => ⟨S8192x4x1, .f32⟩
  | 36 => ⟨S8192x4x1, .f32⟩
  | 37 => ⟨S8192x4x32, .f32⟩
  | 38 => ⟨S8192x4x32, .f32⟩
  | 39 => ⟨S8192x128, .f32⟩
  | 40 => ⟨S1x128x128, .f32⟩
  | 41 => ⟨S128x128, .f32⟩
  | 42 => ⟨S8192x128, .f32⟩
  | 43 => ⟨S8192x128, .f32⟩
  | 44 => ⟨S1x128, .f32⟩
  | 45 => ⟨S128, .f32⟩
  | 46 => ⟨S1x128, .f32⟩
  | 47 => ⟨S8192x128, .f32⟩
  | 48 => ⟨S8192x128, .f32⟩
  | 49 => ⟨S1x128, .f32⟩
  | 50 => ⟨S128, .f32⟩
  | 51 => ⟨S1x128, .f32⟩
  | 52 => ⟨S128, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .i32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x128, .f32⟩
  | 67 => ⟨S8192x128, .f32⟩
  | 68 => ⟨S8192x128, .f32⟩
  | 69 => ⟨S_, .f32⟩
  | 70 => ⟨S_, .f32⟩
  | 71 => ⟨S_, .f32⟩
  | 72 => ⟨S_, .f32⟩
  | 73 => ⟨S8192, .f32⟩
  | 74 => ⟨S8192x1, .f32⟩
  | 75 => ⟨S8192x1, .f32⟩
  | 76 => ⟨S8192x1, .f32⟩
  | 77 => ⟨S_, .f32⟩
  | 78 => ⟨S_, .i1⟩
  | 79 => ⟨S_, .f32⟩
  | 80 => ⟨S_, .f32⟩
  | 81 => ⟨S8192x1, .f32⟩
  | 82 => ⟨S8192x1, .f32⟩
  | 83 => ⟨S8192x128, .f32⟩
  | 84 => ⟨S8192x128, .f32⟩
  | 85 => ⟨S_, .f32⟩
  | 86 => ⟨S8192x1, .f32⟩
  | 87 => ⟨S8192x1, .f32⟩
  | 88 => ⟨S8192x1, .f32⟩
  | 89 => ⟨S8192x128, .f32⟩
  | 90 => ⟨S8192x128, .f32⟩
  | 91 => ⟨S1x128, .f32⟩
  | 92 => ⟨S8192x128, .f32⟩
  | 93 => ⟨S8192x128, .f32⟩
  | 94 => ⟨S1x128, .f32⟩
  | 95 => ⟨S8192x128, .f32⟩
  | 96 => ⟨S8192x128, .f32⟩
  | 97 => ⟨S1x128x512, .f32⟩
  | 98 => ⟨S128x512, .f32⟩
  | 99 => ⟨S8192x512, .f32⟩
  | 100 => ⟨S1x512, .f32⟩
  | 101 => ⟨S512, .f32⟩
  | 102 => ⟨S1x512, .f32⟩
  | 103 => ⟨S8192x512, .f32⟩
  | 104 => ⟨S8192x512, .f32⟩
  | 105 => ⟨S_, .f32⟩
  | 106 => ⟨S8192x512, .f32⟩
  | 107 => ⟨S8192x512, .f32⟩
  | 108 => ⟨S1x512x128, .f32⟩
  | 109 => ⟨S512x128, .f32⟩
  | 110 => ⟨S8192x128, .f32⟩
  | 111 => ⟨S8192x128, .f32⟩
  | 112 => ⟨S1x128, .f32⟩
  | 113 => ⟨S128, .f32⟩
  | 114 => ⟨S1x128, .f32⟩
  | 115 => ⟨S8192x128, .f32⟩
  | 116 => ⟨S8192x128, .f32⟩
  | 117 => ⟨S4x2048x128, .f32⟩
  | 118 => ⟨S_, .f32⟩
  | 119 => ⟨S8192, .f32⟩
  | 120 => ⟨S_, .f32⟩
  | 121 => ⟨S512, .f32⟩
  | 122 => ⟨S8192x1, .i32⟩
  | 123 => ⟨S512, .f32⟩
  | 124 => ⟨S_, .f32⟩
  | 125 => ⟨S512x128, .f32⟩
  | 126 => ⟨S8192x1, .i32⟩
  | 127 => ⟨S512x128, .f32⟩
  | _ => ⟨S4x2048x128, .f32⟩

abbrev hbmTy0_4 (i : Nat) : BufTy := match i % 128 with
  | 0 => ⟨S_, .f32⟩
  | 1 => ⟨S512, .f32⟩
  | 2 => ⟨S512, .f32⟩
  | 3 => ⟨S512x1, .f32⟩
  | 4 => ⟨S512x128, .f32⟩
  | 5 => ⟨S512x128, .f32⟩
  | 6 => ⟨S4x128x128, .f32⟩
  | _ => ⟨S4x2048x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048x128, .f32⟩

abbrev bufTy : (tb : Table) → Fin (tcTables nBuf tb) → BufTy
  | .hbm, ⟨i, _⟩ => hbmTy i
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_cst_0 : Ref sig .tc := ⟨.hbm, 40, rfl⟩
abbrev main_v18 : Ref sig .tc := ⟨.hbm, 41, rfl⟩
abbrev main_v19 : Ref sig .tc := ⟨.hbm, 42, rfl⟩
abbrev main_c_1 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_cst_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_cst_1 : Ref sig .tc := ⟨.hbm, 54, rfl⟩
abbrev main_call0_v8 : Ref sig .tc := ⟨.hbm, 55, rfl⟩
abbrev main_call0_cst_2 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_cst_3 : Ref sig .tc := ⟨.hbm, 61, rfl⟩
abbrev main_call0_v13 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_2 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_call1_cst : Ref sig .tc := ⟨.hbm, 108, rfl⟩
abbrev main_call1_v0 : Ref sig .tc := ⟨.hbm, 109, rfl⟩
abbrev main_call1_v1 : Ref sig .tc := ⟨.hbm, 110, rfl⟩
abbrev main_call1_cst_0 : Ref sig .tc := ⟨.hbm, 111, rfl⟩
abbrev main_call1_v2 : Ref sig .tc := ⟨.hbm, 112, rfl⟩
abbrev main_call1_v3 : Ref sig .tc := ⟨.hbm, 113, rfl⟩
abbrev main_call1_cst_1 : Ref sig .tc := ⟨.hbm, 114, rfl⟩
abbrev main_call1_call0_v0 : Ref sig .tc := ⟨.hbm, 115, rfl⟩
abbrev main_call1_call0_v1 : Ref sig .tc := ⟨.hbm, 116, rfl⟩
abbrev main_call1_v4 : Ref sig .tc := ⟨.hbm, 117, rfl⟩
abbrev main_call1_v5 : Ref sig .tc := ⟨.hbm, 118, rfl⟩
abbrev main_call1_cst_2 : Ref sig .tc := ⟨.hbm, 119, rfl⟩
abbrev main_call1_v6 : Ref sig .tc := ⟨.hbm, 120, rfl⟩
abbrev main_call1_v7 : Ref sig .tc := ⟨.hbm, 121, rfl⟩
abbrev main_v61 : Ref sig .tc := ⟨.hbm, 122, rfl⟩
abbrev main_cst_3 : Ref sig .tc := ⟨.hbm, 123, rfl⟩
abbrev main_v62 : Ref sig .tc := ⟨.hbm, 124, rfl⟩
abbrev main_v63 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_cst_1 : Ref sig .tc := ⟨.hbm, 132, rfl⟩
abbrev main_call2_call0_v0 : Ref sig .tc := ⟨.hbm, 133, rfl⟩
abbrev main_call2_call0_v1 : Ref sig .tc := ⟨.hbm, 134, rfl⟩
abbrev main_call2_v4 : Ref sig .tc := ⟨.hbm, 135, rfl⟩
abbrev main_call2_v5 : Ref sig .tc := ⟨.hbm, 136, rfl⟩
abbrev main_call2_cst_2 : Ref sig .tc := ⟨.hbm, 137, rfl⟩
abbrev main_call2_v6 : Ref sig .tc := ⟨.hbm, 138, rfl⟩
abbrev main_call2_v7 : Ref sig .tc := ⟨.hbm, 139, rfl⟩
abbrev main_v64 : Ref sig .tc := ⟨.hbm, 140, rfl⟩
abbrev main_cst_4 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_5 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_cst_6 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_c_7 : Ref sig .tc := ⟨.hbm, 159, rfl⟩
abbrev main_v80 : Ref sig .tc := ⟨.hbm, 160, rfl⟩
abbrev main_v81 : Ref sig .tc := ⟨.hbm, 161, rfl⟩
abbrev main_c_8 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_c_9 : Ref sig .tc := ⟨.hbm, 169, rfl⟩
abbrev main_v88 : Ref sig .tc := ⟨.hbm, 170, rfl⟩
abbrev main_v89 : Ref sig .tc := ⟨.hbm, 171, rfl⟩
abbrev main_c_10 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_cst_11 : Ref sig .tc := ⟨.hbm, 181, rfl⟩
abbrev main_v98 : Ref sig .tc := ⟨.hbm, 182, rfl⟩
abbrev main_v99 : Ref sig .tc := ⟨.hbm, 183, rfl⟩
abbrev main_cst_12 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_cst_13 : Ref sig .tc := ⟨.hbm, 203, rfl⟩
abbrev main_v118 : Ref sig .tc := ⟨.hbm, 204, rfl⟩
abbrev main_v119 : Ref sig .tc := ⟨.hbm, 205, rfl⟩
abbrev main_cst_14 : Ref sig .tc := ⟨.hbm, 206, rfl⟩
abbrev main_v120 : Ref sig .tc := ⟨.hbm, 207, rfl⟩
abbrev main_v121 : Ref sig .tc := ⟨.hbm, 208, rfl⟩
abbrev main_c_15 : Ref sig .tc := ⟨.hbm, 209, rfl⟩
abbrev main_call3_cst : Ref sig .tc := ⟨.hbm, 210, rfl⟩
abbrev main_call3_v0 : Ref sig .tc := ⟨.hbm, 211, rfl⟩
abbrev main_call3_v1 : Ref sig .tc := ⟨.hbm, 212, rfl⟩
abbrev main_call3_cst_0 : Ref sig .tc := ⟨.hbm, 213, rfl⟩
abbrev main_call3_v2 : Ref sig .tc := ⟨.hbm, 214, rfl⟩
abbrev main_call3_v3 : Ref sig .tc := ⟨.hbm, 215, rfl⟩
abbrev main_call3_v4 : Ref sig .tc := ⟨.hbm, 216, rfl⟩
abbrev main_call3_v5 : Ref sig .tc := ⟨.hbm, 217, rfl⟩
abbrev main_call3_v6 : Ref sig .tc := ⟨.hbm, 218, rfl⟩
abbrev main_call3_v7 : Ref sig .tc := ⟨.hbm, 219, rfl⟩
abbrev main_call3_cst_1 : Ref sig .tc := ⟨.hbm, 220, rfl⟩
abbrev main_call3_v8 : Ref sig .tc := ⟨.hbm, 221, rfl⟩
abbrev main_call3_cst_2 : Ref sig .tc := ⟨.hbm, 222, rfl⟩
abbrev main_call3_v9 : Ref sig .tc := ⟨.hbm, 223, rfl⟩
abbrev main_call3_v10 : Ref sig .tc := ⟨.hbm, 224, rfl⟩
abbrev main_call3_v11 : Ref sig .tc := ⟨.hbm, 225, rfl⟩
abbrev main_call3_v12 : Ref sig .tc := ⟨.hbm, 226, rfl⟩
abbrev main_call3_cst_3 : Ref sig .tc := ⟨.hbm, 227, rfl⟩
abbrev main_call3_v13 : Ref sig .tc := ⟨.hbm, 228, rfl⟩
abbrev main_call3_cst_4 : Ref sig .tc := ⟨.hbm, 229, rfl⟩
abbrev main_call3_call0_v0 : Ref sig .tc := ⟨.hbm, 230, rfl⟩
abbrev main_call3_call0_v1 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_cst_16 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_call4_cst : Ref sig .tc := ⟨.hbm, 255, rfl⟩
abbrev main_call4_v0 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev main_v155 : Ref sig .tc := ⟨.hbm, 268, rfl⟩
abbrev main_v156 : Ref sig .tc := ⟨.hbm, 269, rfl⟩
abbrev main_v157 : Ref sig .tc := ⟨.hbm, 270, rfl⟩
abbrev main_cst_17 : Ref sig .tc := ⟨.hbm, 271, rfl⟩
abbrev main_v158 : Ref sig .tc := ⟨.hbm, 272, rfl⟩
abbrev main_v159 : Ref sig .tc := ⟨.hbm, 273, rfl⟩
abbrev main_cst_18 : Ref sig .tc := ⟨.hbm, 274, rfl⟩
abbrev main_v160 : Ref sig .tc := ⟨.hbm, 275, rfl⟩
abbrev main_v161 : Ref sig .tc := ⟨.hbm, 276, rfl⟩
abbrev main_c_19 : Ref sig .tc := ⟨.hbm, 277, rfl⟩
abbrev main_call5_cst : Ref sig .tc := ⟨.hbm, 278, rfl⟩
abbrev main_call5_v0 : Ref sig .tc := ⟨.hbm, 279, rfl⟩
abbrev main_call5_v1 : Ref sig .tc := ⟨.hbm, 280, rfl⟩
abbrev main_call5_cst_0 : Ref sig .tc := ⟨.hbm, 281, rfl⟩
abbrev main_call5_v2 : Ref sig .tc := ⟨.hbm, 282, rfl⟩
abbrev main_call5_v3 : Ref sig .tc := ⟨.hbm, 283, rfl⟩
abbrev main_call5_v4 : Ref sig .tc := ⟨.hbm, 284, rfl⟩
abbrev main_call5_v5 : Ref sig .tc := ⟨.hbm, 285, rfl⟩
abbrev main_call5_v6 : Ref sig .tc := ⟨.hbm, 286, rfl⟩
abbrev main_call5_v7 : Ref sig .tc := ⟨.hbm, 287, rfl⟩
abbrev main_call5_cst_1 : Ref sig .tc := ⟨.hbm, 288, rfl⟩
abbrev main_call5_v8 : Ref sig .tc := ⟨.hbm, 289, rfl⟩
abbrev main_call5_cst_2 : Ref sig .tc := ⟨.hbm, 290, rfl⟩
abbrev main_call5_v9 : Ref sig .tc := ⟨.hbm, 291, rfl⟩
abbrev main_call5_v10 : Ref sig .tc := ⟨.hbm, 292, rfl⟩
abbrev main_call5_v11 : Ref sig .tc := ⟨.hbm, 293, rfl⟩
abbrev main_call5_v12 : Ref sig .tc := ⟨.hbm, 294, rfl⟩
abbrev main_call5_cst_3 : Ref sig .tc := ⟨.hbm, 295, rfl⟩
abbrev main_call5_v13 : Ref sig .tc := ⟨.hbm, 296, rfl⟩
abbrev main_call5_cst_4 : Ref sig .tc := ⟨.hbm, 297, rfl⟩
abbrev main_call5_call0_v0 : Ref sig .tc := ⟨.hbm, 298, rfl⟩
abbrev main_call5_call0_v1 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_cst_20 : Ref sig .tc := ⟨.hbm, 303, rfl⟩
abbrev main_v165 : Ref sig .tc := ⟨.hbm, 304, rfl⟩
abbrev main_v166 : Ref sig .tc := ⟨.hbm, 305, rfl⟩
abbrev main_v167 : Ref sig .tc := ⟨.hbm, 306, rfl⟩
abbrev main_v168 : Ref sig .tc := ⟨.hbm, 307, rfl⟩
abbrev main_v169 : Ref sig .tc := ⟨.hbm, 308, rfl⟩
abbrev main_v170 : Ref sig .tc := ⟨.hbm, 309, rfl⟩
abbrev main_v171 : Ref sig .tc := ⟨.hbm, 310, rfl⟩
abbrev main_v172 : Ref sig .tc := ⟨.hbm, 311, rfl⟩
abbrev main_v173 : Ref sig .tc := ⟨.hbm, 312, rfl⟩
abbrev main_v174 : Ref sig .tc := ⟨.hbm, 313, rfl⟩
abbrev main_v175 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_v179 : Ref sig .tc := ⟨.hbm, 318, rfl⟩
abbrev main_v180 : Ref sig .tc := ⟨.hbm, 319, rfl⟩
abbrev main_v181 : Ref sig .tc := ⟨.hbm, 320, rfl⟩
abbrev main_v182 : Ref sig .tc := ⟨.hbm, 321, rfl⟩
abbrev main_v183 : Ref sig .tc := ⟨.hbm, 322, rfl⟩
abbrev main_v184 : Ref sig .tc := ⟨.hbm, 323, rfl⟩
abbrev main_v185 : Ref sig .tc := ⟨.hbm, 324, rfl⟩
abbrev main_v186 : Ref sig .tc := ⟨.hbm, 325, rfl⟩
abbrev main_v187 : Ref sig .tc := ⟨.hbm, 326, rfl⟩
abbrev main_v188 : Ref sig .tc := ⟨.hbm, 327, rfl⟩
abbrev main_v189 : Ref sig .tc := ⟨.hbm, 328, rfl⟩
abbrev main_v190 : Ref sig .tc := ⟨.hbm, 329, rfl⟩
abbrev main_v191 : Ref sig .tc := ⟨.hbm, 330, rfl⟩
abbrev main_v192 : Ref sig .tc := ⟨.hbm, 331, rfl⟩
abbrev main_v193 : Ref sig .tc := ⟨.hbm, 332, rfl⟩
abbrev main_v194 : Ref sig .tc := ⟨.hbm, 333, rfl⟩
abbrev main_v195 : Ref sig .tc := ⟨.hbm, 334, rfl⟩
abbrev main_v196 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_v200 : Ref sig .tc := ⟨.hbm, 339, rfl⟩
abbrev main_v201 : Ref sig .tc := ⟨.hbm, 340, rfl⟩
abbrev main_v202 : Ref sig .tc := ⟨.hbm, 341, rfl⟩
abbrev main_call6_cst : Ref sig .tc := ⟨.hbm, 342, rfl⟩
abbrev main_call6_v0 : Ref sig .tc := ⟨.hbm, 343, rfl⟩
abbrev main_call6_v1 : Ref sig .tc := ⟨.hbm, 344, rfl⟩
abbrev main_call6_cst_0 : Ref sig .tc := ⟨.hbm, 345, rfl⟩
abbrev main_call6_v2 : Ref sig .tc := ⟨.hbm, 346, rfl⟩
abbrev main_call6_v3 : Ref sig .tc := ⟨.hbm, 347, rfl⟩
abbrev main_call6_cst_1 : Ref sig .tc := ⟨.hbm, 348, rfl⟩
abbrev main_call6_call0_v0 : Ref sig .tc := ⟨.hbm, 349, rfl⟩
abbrev main_call6_call0_v1 : Ref sig .tc := ⟨.hbm, 350, rfl⟩
abbrev main_call6_v4 : Ref sig .tc := ⟨.hbm, 351, rfl⟩
abbrev main_call6_v5 : Ref sig .tc := ⟨.hbm, 352, rfl⟩
abbrev main_call6_cst_2 : Ref sig .tc := ⟨.hbm, 353, rfl⟩
abbrev main_call6_v6 : Ref sig .tc := ⟨.hbm, 354, rfl⟩
abbrev main_call6_v7 : Ref sig .tc := ⟨.hbm, 355, rfl⟩
abbrev main_v203 : Ref sig .tc := ⟨.hbm, 356, rfl⟩
abbrev main_cst_21 : Ref sig .tc := ⟨.hbm, 357, rfl⟩
abbrev main_v204 : Ref sig .tc := ⟨.hbm, 358, rfl⟩
abbrev main_v205 : Ref sig .tc := ⟨.hbm, 359, rfl⟩
abbrev main_call7_cst : Ref sig .tc := ⟨.hbm, 360, rfl⟩
abbrev main_call7_v0 : Ref sig .tc := ⟨.hbm, 361, rfl⟩
abbrev main_call7_v1 : Ref sig .tc := ⟨.hbm, 362, rfl⟩
abbrev main_call7_cst_0 : Ref sig .tc := ⟨.hbm, 363, rfl⟩
abbrev main_call7_v2 : Ref sig .tc := ⟨.hbm, 364, rfl⟩
abbrev main_call7_v3 : Ref sig .tc := ⟨.hbm, 365, rfl⟩
abbrev main_call7_cst_1 : Ref sig .tc := ⟨.hbm, 366, rfl⟩
abbrev main_call7_call0_v0 : Ref sig .tc := ⟨.hbm, 367, rfl⟩
abbrev main_call7_call0_v1 : Ref sig .tc := ⟨.hbm, 368, rfl⟩
abbrev main_call7_v4 : Ref sig .tc := ⟨.hbm, 369, rfl⟩
abbrev main_call7_v5 : Ref sig .tc := ⟨.hbm, 370, rfl⟩
abbrev main_call7_cst_2 : Ref sig .tc := ⟨.hbm, 371, rfl⟩
abbrev main_call7_v6 : Ref sig .tc := ⟨.hbm, 372, rfl⟩
abbrev main_call7_v7 : Ref sig .tc := ⟨.hbm, 373, rfl⟩
abbrev main_v206 : Ref sig .tc := ⟨.hbm, 374, rfl⟩
abbrev main_cst_22 : Ref sig .tc := ⟨.hbm, 375, rfl⟩
abbrev main_v207 : Ref sig .tc := ⟨.hbm, 376, rfl⟩
abbrev main_v208 : Ref sig .tc := ⟨.hbm, 377, rfl⟩
abbrev main_v209 : Ref sig .tc := ⟨.hbm, 378, rfl⟩
abbrev main_v210 : Ref sig .tc := ⟨.hbm, 379, rfl⟩
abbrev main_v211 : Ref sig .tc := ⟨.hbm, 380, rfl⟩
abbrev main_v212 : Ref sig .tc := ⟨.hbm, 381, rfl⟩
abbrev main_v213 : Ref sig .tc := ⟨.hbm, 382, rfl⟩
abbrev main_v214 : Ref sig .tc := ⟨.hbm, 383, rfl⟩
abbrev main_cst_23 : Ref sig .tc := ⟨.hbm, 384, rfl⟩
abbrev main_v215 : Ref sig .tc := ⟨.hbm, 385, rfl⟩
abbrev main_v216 : Ref sig .tc := ⟨.hbm, 386, rfl⟩
abbrev main_v217 : Ref sig .tc := ⟨.hbm, 387, rfl⟩
abbrev main_v218 : Ref sig .tc := ⟨.hbm, 388, rfl⟩
abbrev main_cst_24 : Ref sig .tc := ⟨.hbm, 389, rfl⟩
abbrev main_v219 : Ref sig .tc := ⟨.hbm, 390, rfl⟩
abbrev main_v220 : Ref sig .tc := ⟨.hbm, 391, rfl⟩
abbrev main_v221 : Ref sig .tc := ⟨.hbm, 392, rfl⟩
abbrev main_c_25 : Ref sig .tc := ⟨.hbm, 393, rfl⟩
abbrev main_v222 : Ref sig .tc := ⟨.hbm, 394, rfl⟩
abbrev main_v223 : Ref sig .tc := ⟨.hbm, 395, rfl⟩
abbrev main_c_26 : Ref sig .tc := ⟨.hbm, 396, rfl⟩
abbrev main_v224 : Ref sig .tc := ⟨.hbm, 397, rfl⟩
abbrev main_v225 : Ref sig .tc := ⟨.hbm, 398, rfl⟩
abbrev main_v226 : Ref sig .tc := ⟨.hbm, 399, rfl⟩
abbrev main_v227 : Ref sig .tc := ⟨.hbm, 400, rfl⟩
abbrev main_v228 : Ref sig .tc := ⟨.hbm, 401, rfl⟩
abbrev main_v229 : Ref sig .tc := ⟨.hbm, 402, rfl⟩
abbrev main_c_27 : Ref sig .tc := ⟨.hbm, 403, rfl⟩
abbrev main_v230 : Ref sig .tc := ⟨.hbm, 404, rfl⟩
abbrev main_v231 : Ref sig .tc := ⟨.hbm, 405, rfl⟩
abbrev main_c_28 : Ref sig .tc := ⟨.hbm, 406, rfl⟩
abbrev main_v232 : Ref sig .tc := ⟨.hbm, 407, rfl⟩
abbrev main_v233 : Ref sig .tc := ⟨.hbm, 408, rfl⟩
abbrev main_v234 : Ref sig .tc := ⟨.hbm, 409, rfl⟩
abbrev main_v235 : Ref sig .tc := ⟨.hbm, 410, rfl⟩
abbrev main_v236 : Ref sig .tc := ⟨.hbm, 411, rfl⟩
abbrev main_v237 : Ref sig .tc := ⟨.hbm, 412, rfl⟩
abbrev main_v238 : Ref sig .tc := ⟨.hbm, 413, rfl⟩
abbrev main_v239 : Ref sig .tc := ⟨.hbm, 414, rfl⟩
abbrev main_cst_29 : Ref sig .tc := ⟨.hbm, 415, rfl⟩
abbrev main_v240 : Ref sig .tc := ⟨.hbm, 416, rfl⟩
abbrev main_v241 : Ref sig .tc := ⟨.hbm, 417, rfl⟩
abbrev main_cst_30 : Ref sig .tc := ⟨.hbm, 418, rfl⟩
abbrev main_v242 : Ref sig .tc := ⟨.hbm, 419, rfl⟩
abbrev main_v243 : Ref sig .tc := ⟨.hbm, 420, rfl⟩
abbrev main_v244 : Ref sig .tc := ⟨.hbm, 421, rfl⟩
abbrev main_v245 : Ref sig .tc := ⟨.hbm, 422, rfl⟩
abbrev main_v246 : Ref sig .tc := ⟨.hbm, 423, rfl⟩
abbrev main_v247 : Ref sig .tc := ⟨.hbm, 424, rfl⟩
abbrev main_v248 : Ref sig .tc := ⟨.hbm, 425, rfl⟩
abbrev main_v249 : Ref sig .tc := ⟨.hbm, 426, rfl⟩
abbrev main_v250 : Ref sig .tc := ⟨.hbm, 427, rfl⟩
abbrev main_v251 : Ref sig .tc := ⟨.hbm, 428, rfl⟩
abbrev main_v252 : Ref sig .tc := ⟨.hbm, 429, rfl⟩
abbrev main_v253 : Ref sig .tc := ⟨.hbm, 430, rfl⟩
abbrev main_v254 : Ref sig .tc := ⟨.hbm, 431, rfl⟩
abbrev main_v255 : Ref sig .tc := ⟨.hbm, 432, rfl⟩
abbrev main_v256 : Ref sig .tc := ⟨.hbm, 433, rfl⟩
abbrev main_v257 : Ref sig .tc := ⟨.hbm, 434, rfl⟩
abbrev main_v258 : Ref sig .tc := ⟨.hbm, 435, rfl⟩
abbrev main_v259 : Ref sig .tc := ⟨.hbm, 436, rfl⟩
abbrev main_cst_31 : Ref sig .tc := ⟨.hbm, 437, rfl⟩
abbrev main_v260 : Ref sig .tc := ⟨.hbm, 438, rfl⟩
abbrev main_v261 : Ref sig .tc := ⟨.hbm, 439, rfl⟩
abbrev main_cst_32 : Ref sig .tc := ⟨.hbm, 440, rfl⟩
abbrev main_v262 : Ref sig .tc := ⟨.hbm, 441, rfl⟩
abbrev main_v263 : Ref sig .tc := ⟨.hbm, 442, rfl⟩
abbrev main_c_33 : Ref sig .tc := ⟨.hbm, 443, rfl⟩
abbrev main_call8_cst : Ref sig .tc := ⟨.hbm, 444, rfl⟩
abbrev main_call8_v0 : Ref sig .tc := ⟨.hbm, 445, rfl⟩
abbrev main_call8_v1 : Ref sig .tc := ⟨.hbm, 446, rfl⟩
abbrev main_call8_cst_0 : Ref sig .tc := ⟨.hbm, 447, rfl⟩
abbrev main_call8_v2 : Ref sig .tc := ⟨.hbm, 448, rfl⟩
abbrev main_call8_v3 : Ref sig .tc := ⟨.hbm, 449, rfl⟩
abbrev main_call8_v4 : Ref sig .tc := ⟨.hbm, 450, rfl⟩
abbrev main_call8_v5 : Ref sig .tc := ⟨.hbm, 451, rfl⟩
abbrev main_call8_v6 : Ref sig .tc := ⟨.hbm, 452, rfl⟩
abbrev main_call8_v7 : Ref sig .tc := ⟨.hbm, 453, rfl⟩
abbrev main_call8_cst_1 : Ref sig .tc := ⟨.hbm, 454, rfl⟩
abbrev main_call8_v8 : Ref sig .tc := ⟨.hbm, 455, rfl⟩
abbrev main_call8_cst_2 : Ref sig .tc := ⟨.hbm, 456, rfl⟩
abbrev main_call8_v9 : Ref sig .tc := ⟨.hbm, 457, rfl⟩
abbrev main_call8_v10 : Ref sig .tc := ⟨.hbm, 458, rfl⟩
abbrev main_call8_v11 : Ref sig .tc := ⟨.hbm, 459, rfl⟩
abbrev main_call8_v12 : Ref sig .tc := ⟨.hbm, 460, rfl⟩
abbrev main_call8_cst_3 : Ref sig .tc := ⟨.hbm, 461, rfl⟩
abbrev main_call8_v13 : Ref sig .tc := ⟨.hbm, 462, rfl⟩
abbrev main_call8_cst_4 : Ref sig .tc := ⟨.hbm, 463, rfl⟩
abbrev main_call8_call0_v0 : Ref sig .tc := ⟨.hbm, 464, rfl⟩
abbrev main_call8_call0_v1 : Ref sig .tc := ⟨.hbm, 465, rfl⟩
abbrev main_v264 : Ref sig .tc := ⟨.hbm, 466, rfl⟩
abbrev main_v265 : Ref sig .tc := ⟨.hbm, 467, rfl⟩
abbrev main_v266 : Ref sig .tc := ⟨.hbm, 468, rfl⟩
abbrev main_cst_34 : Ref sig .tc := ⟨.hbm, 469, rfl⟩
abbrev main_v267 : Ref sig .tc := ⟨.hbm, 470, rfl⟩
abbrev main_v268 : Ref sig .tc := ⟨.hbm, 471, rfl⟩
abbrev main_v269 : Ref sig .tc := ⟨.hbm, 472, rfl⟩
abbrev main_v270 : Ref sig .tc := ⟨.hbm, 473, rfl⟩
abbrev main_v271 : Ref sig .tc := ⟨.hbm, 474, rfl⟩
abbrev main_v272 : Ref sig .tc := ⟨.hbm, 475, rfl⟩
abbrev main_v273 : Ref sig .tc := ⟨.hbm, 476, rfl⟩
abbrev main_v274 : Ref sig .tc := ⟨.hbm, 477, rfl⟩
abbrev main_v275 : Ref sig .tc := ⟨.hbm, 478, rfl⟩
abbrev main_v276 : Ref sig .tc := ⟨.hbm, 479, rfl⟩
abbrev main_v277 : Ref sig .tc := ⟨.hbm, 480, rfl⟩
abbrev main_v278 : Ref sig .tc := ⟨.hbm, 481, rfl⟩
abbrev main_v279 : Ref sig .tc := ⟨.hbm, 482, rfl⟩
abbrev main_v280 : Ref sig .tc := ⟨.hbm, 483, rfl⟩
abbrev main_v281 : Ref sig .tc := ⟨.hbm, 484, rfl⟩
abbrev main_v282 : Ref sig .tc := ⟨.hbm, 485, rfl⟩
abbrev main_v283 : Ref sig .tc := ⟨.hbm, 486, rfl⟩
abbrev main_v284 : Ref sig .tc := ⟨.hbm, 487, rfl⟩
abbrev main_v285 : Ref sig .tc := ⟨.hbm, 488, rfl⟩
abbrev main_call9_cst : Ref sig .tc := ⟨.hbm, 489, rfl⟩
abbrev main_call9_v0 : Ref sig .tc := ⟨.hbm, 490, rfl⟩
abbrev main_v286 : Ref sig .tc := ⟨.hbm, 491, rfl⟩
abbrev main_v287 : Ref sig .tc := ⟨.hbm, 492, rfl⟩
abbrev main_v288 : Ref sig .tc := ⟨.hbm, 493, rfl⟩
abbrev main_v289 : Ref sig .tc := ⟨.hbm, 494, rfl⟩
abbrev main_v290 : Ref sig .tc := ⟨.hbm, 495, rfl⟩
abbrev main_v291 : Ref sig .tc := ⟨.hbm, 496, rfl⟩
abbrev main_v292 : Ref sig .tc := ⟨.hbm, 497, rfl⟩
abbrev main_v293 : Ref sig .tc := ⟨.hbm, 498, rfl⟩
abbrev main_v294 : Ref sig .tc := ⟨.hbm, 499, rfl⟩
abbrev main_v295 : Ref sig .tc := ⟨.hbm, 500, rfl⟩
abbrev main_v296 : Ref sig .tc := ⟨.hbm, 501, rfl⟩
abbrev main_cst_35 : Ref sig .tc := ⟨.hbm, 502, rfl⟩
abbrev main_v297 : Ref sig .tc := ⟨.hbm, 503, rfl⟩
abbrev main_cst_36 : Ref sig .tc := ⟨.hbm, 504, rfl⟩
abbrev main_v298 : Ref sig .tc := ⟨.hbm, 505, rfl⟩
abbrev main_v299 : Ref sig .tc := ⟨.hbm, 506, rfl⟩
abbrev main_v300 : Ref sig .tc := ⟨.hbm, 507, rfl⟩
abbrev main_cst_37 : Ref sig .tc := ⟨.hbm, 508, rfl⟩
abbrev main_v301 : Ref sig .tc := ⟨.hbm, 509, rfl⟩
abbrev main_v302 : Ref sig .tc := ⟨.hbm, 510, rfl⟩
abbrev main_v303 : Ref sig .tc := ⟨.hbm, 511, rfl⟩
abbrev main_cst_38 : Ref sig .tc := ⟨.hbm, 512, rfl⟩
abbrev main_v304 : Ref sig .tc := ⟨.hbm, 513, rfl⟩
abbrev main_v305 : Ref sig .tc := ⟨.hbm, 514, rfl⟩
abbrev main_v306 : Ref sig .tc := ⟨.hbm, 515, rfl⟩
abbrev main_v307 : Ref sig .tc := ⟨.hbm, 516, rfl⟩
abbrev main_v308 : Ref sig .tc := ⟨.hbm, 517, rfl⟩
abbrev main_v309 : Ref sig .tc := ⟨.hbm, 518, rfl⟩

abbrev nD : Nat := 1
abbrev τ : Topo := Topo.v7x

variable {F : FTy → Type} [FloatOps F]
-- ==== Proof.IdealFrame.lean ====
/- The launch of `KernelIdeal`: the host operations before its one region, what the region holds at entry, the body's triple,
   the run, and the frame (every argument array unchanged, every semaphore counter at zero). This is the launch set-up that is
   written with the program, for 25 windows. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 7).trans (((dats 0 c).arrAt_in 7 rfl _).trans ((hA c 7).trans (V_main_arg6 m c))),
      ((h c).2 main_arg7 (Pipeline.mem_restRefs_of main_arg7 (by decide) (by decide))).trans (V_main_arg7 m c),
      ((h c).1 9).trans (((dats 0 c).arrAt_in 9 rfl _).trans ((hA c 9).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 13).trans (((dats 0 c).arrAt_in 13 rfl _).trans ((hA c 13).trans (V_main_arg12 m c))),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 17).trans (((dats 0 c).arrAt_in 17 rfl _).trans ((hA c 17).trans (V_main_arg16 m c))),
      ((h c).2 main_arg17 (Pipeline.mem_restRefs_of main_arg17 (by decide) (by decide))).trans (V_main_arg17 m c),
      ((h c).1 19).trans (((dats 0 c).arrAt_in 19 rfl _).trans ((hA c 19).trans (V_main_arg18 m c))),
      ((h c).2 main_arg19 (Pipeline.mem_restRefs_of main_arg19 (by decide) (by decide))).trans (V_main_arg19 m c)⟩) h

/-! ## The body's accesses -/

abbrev r0_0 : Rect S1x2048x128 := Rect.unit (s := S1x2048x128) ![0, 0, 0] S1x2048x128.size inb_S1x2048x128_S1x2048x128_0_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S1x2048x1 := Rect.unit (s := S1x2048x1) ![0, 0, 0] S1x2048x1.size inb_S1x2048x1_S1x2048x1_0_0_0
abbrev r0_4 : Rect S1x1x2048 := Rect.unit (s := S1x1x2048) ![0, 0, 0] S1x1x2048.size inb_S1x1x2048_S1x1x2048_0_0_0
abbrev r0_5 : Rect S1024x32 := Rect.unit (s := S1024x32) ![0, 0] S1024x32.size inb_S1024x32_S1024x32_0_0
abbrev r0_6 : Rect S128x4 := Rect.unit (s := S128x4) ![0, 0] S128x4.size inb_S128x4_S128x4_0_0
abbrev r0_7 : Rect S2x1x128 := Rect.unit (s := S2x1x128) ![0, 0, 0] S1x1x128.size inb_S2x1x128_S1x1x128_0_0_0
abbrev r0_8 : Rect S2x128x128 := Rect.unit (s := S2x128x128) ![0, 0, 0] S1x128x128.size inb_S2x128x128_S1x128x128_0_0_0
abbrev r0_9 : Rect S2x128x4096 := Rect.unit (s := S2x128x4096) ![0, 0, 0] S1x128x4096.size inb_S2x128x4096_S1x128x4096_0_0_0
abbrev r0_10 : Rect S2x1x4096 := Rect.unit (s := S2x1x4096) ![0, 0, 0] S1x1x4096.size inb_S2x1x4096_S1x1x4096_0_0_0
abbrev r0_11 : Rect S2x128x512 := Rect.unit (s := S2x128x512) ![0, 0, 0] S1x128x512.size inb_S2x128x512_S1x128x512_0_0_0
abbrev r0_12 : Rect S2x1x512 := Rect.unit (s := S2x1x512) ![0, 0, 0] S1x1x512.size inb_S2x1x512_S1x1x512_0_0_0
abbrev r0_13 : Rect S2x512x128 := Rect.unit (s := S2x512x128) ![0, 0, 0] S1x512x128.size inb_S2x512x128_S1x512x128_0_0_0
abbrev r0_14 : Rect S2x1x128 := Rect.unit (s := S2x1x128) ![1, 0, 0] S1x1x128.size inb_S2x1x128_S1x1x128_1_0_0
abbrev r0_15 : Rect S2x128x128 := Rect.unit (s := S2x128x128) ![1, 0, 0] S1x128x128.size inb_S2x128x128_S1x128x128_1_0_0
abbrev r0_16 : Rect S2x128x4096 := Rect.unit (s := S2x128x4096) ![1, 0, 0] S1x128x4096.size inb_S2x128x4096_S1x128x4096_1_0_0
abbrev r0_17 : Rect S2x1x4096 := Rect.unit (s := S2x1x4096) ![1, 0, 0] S1x1x4096.size inb_S2x1x4096_S1x1x4096_1_0_0
abbrev r0_18 : Rect S2x128x512 := Rect.unit (s := S2x128x512) ![1, 0, 0] S1x128x512.size inb_S2x128x512_S1x128x512_1_0_0
abbrev r0_19 : Rect S2x1x512 := Rect.unit (s := S2x1x512) ![1, 0, 0] S1x1x512.size inb_S2x1x512_S1x1x512_1_0_0
abbrev r0_20 : Rect S2x512x128 := Rect.unit (s := S2x512x128) ![1, 0, 0] S1x512x128.size inb_S2x512x128_S1x512x128_1_0_0
abbrev r0_21 : Rect S1x128x128 := Rect.unit (s := S1x128x128) ![0, 0, 0] S1x128x128.size inb_S1x128x128_S1x128x128_0_0_0

/-! ## What the body leaves in each output window's buffer -/

/-! ### Values of the body that the stores' payloads, spelt out, would write more than once

    Each is a vector the body binds (often a part call's result), stated over the input windows' blocks and
    numbered on from the skeleton's payload functions (`k0_pay40` …, after `k0_pay39`), so that
    `out0_W` and the values after it name it instead of spelling it out ; the comment after each is the printed function's
    name for the value (a count appended where that name is bound again). -/

def k0_pay40 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  k0_pay4 (View.ld x0 r0_0) (View.ld x3 r0_1) (View.ld x4 r0_2) -- `v7`
def k0_pay41 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  k0_pay5 (View.ld x1 r0_3) -- `v16`
def k0_pay42 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S128x2048 .f32 :=
  k0_pay6 (View.ld x2 r0_4) -- `v21`
def k0_pay43 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S1024x32 .f32 :=
  k0_pay7 (View.ld x21 r0_5) -- `v23`
def k0_pay44 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S128x4 .f32 :=
  k0_pay8 (View.ld x22 r0_6) -- `v25`
def k0_pay45 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S1x128 .f32 :=
  k0_pay9 (View.ld x5 r0_7) -- `v27`
def k0_pay46 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S1x128 .f32 :=
  k0_pay10 (View.ld x6 r0_7) -- `v29`
def k0_pay47 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x1 .f32 :=
  k0_pay11 (View.ld x0 r0_0) (View.ld x3 r0_1) (View.ld x4 r0_2) -- `v31`
def k0_pay48 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x1 .f32 :=
  k0_pay12 (F := F) -- `v32`
def k0_pay49 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  k0_pay13 (k0_pay40 x0 x1 x2 x3 x4 x5 x6 x7 x8 x9 x10 x11 x12 x13 x14 x15 x16 x17 x18 x19 x20 x21 x22) (k0_pay45 x0 x1 x2 x3 x4 x5 x6 x7 x8 x9 x10 x11 x12 x13 x14 x15 x16 x17 x18 x19 x20 x21 x22) (k0_pay46 x0 x1 x2 x3 x4 x5 x6 x7 x8 x9 x10 x11 x12 x13 x14 x15 x16 x17 x18 x19 x20 x21 x22) (k0_pay47 x0 x1 x2 x3 x4 x5 x6 x7 x8 x9 x10 x11 x12 x13 x14 x15 x16 x17 x18 x19 x20 x21 x22) (k0_pay48 x0 x1 x2 x3 x4 x5 x6 x7 x8 x9 x10 x11 x12 x13 x14 x15 x16 x17 x18 x19 x20 x21 x22) -- `v53`
def k0_pay50 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  k0_pay14 (k0_pay40 x0 x1 x2 x3 x4 x5 x6 x7 x8 x9 x10 x11 x12 x13 x14 x15 x16 x17 x18 x19 x20 x21 x22) (k0_pay45 x0 x1 x2 x3 x4 x5 x6 x7 x8 x9 x10 x11 x12 x13 x14 x15 x16 x17 x18 x19 x20 x21 x22) (k0_pay46 x0 x1 x2 x3 x4 x5 x6 x7 x8 x9 x10 x11 x12 x13 x14 x15 x16 x17 x18 x19 x20 x21 x22) (k0_pay47 x0 x1 x2 x3 x4 x5 x6 x7 x8 x9 x10 x11 x12 x13 x14 x15 x16 x17 x18 x19 x20 x21 x22) (k0_pay48 x0 x1 x2 x3 x4 x5 x6 x7 x8 x9 x10 x11 x12 x13 x14 x15 x16 x17 x18 x19 x20 x21 x22) (View.ld x9 r0_8) (View.ld x10 r0_7) -- `v67`
def k0_pay51 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  k0_pay15 (k0_pay40 x0 x1 x2 x3 x4 x5 x6 x7 x8 x9 x10 x11 x12 x13 x14 x15 x16 x17 x18 x19 x20 x21 x22) (k0_pay45 x0 x1 x2 x3 x4 x5 x6 x7 x8 x9 x10 x11 x12 x13 x14 x15 x16 x17 x18 x19 x20 x21 x22) (k0_pay46 x0 x1 x2 x3 x4 x5 x6 x7 x8 x9 x10 x11 x12 x13 x14 x15 x16 x17 x18 x19 x20 x21 x22) (k0_pay47 x0 x1 x2 x3 x4 x5 x6 x7 x8 x9 x10 x11 x12 x13 x14 x15 x16 x17 x18 x19 x20 x21 x22) (k0_pay48 x0 x1 x2 x3 x4 x5 x6 x7 x8 x9 x10 x11 x12 x13 x14 x15 x16 x17 x18 x19 x20 x21 x22) (View.ld x7 r0_8) (View.ld x8 r0_7) -- `v73`
def k0_pay52 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  k0_pay23 (k0_pay20 (k0_pay40 x0 x1 x2 x3 x4 x5 x6 x7 x8 x9 x10 x11 x12 x13 x14 x15 x16 x17 x18 x19 x20 x21 x22) (k0_pay43 x0 x1 x2 x3 x4 x5 x6 x7 x8 x9 x10 x11 x12 x13 x14 x15 x16 x17 x18 x19 x20 x21 x22) (k0_pay51 x0 x1 x2 x3 x4 x5 x6 x7 x8 x9 x10 x11 x12 x13 x14 x15 x16 x17 x18 x19 x20 x21 x22) (k0_pay16 (k0_pay41 x0 x1 x2 x3 x4 x5 x6 x7 x8 x9 x10 x11 x12 x13 x14 x15 x16 x17 x18 x19 x20 x21 x22) (k0_pay42 x0 x1 x2 x3 x4 x5 x6 x7 x8 x9 x10 x11 x12 x13 x14 x15 x16 x17 x18 x19 x20 x21 x22) (k0_pay49 x0 x1 x2 x3 x4 x5 x6 x7 x8 x9 x10 x11 x12 x13 x14 x15 x16 x17 x18 x19 x20 x21 x22) (k0_pay50 x0 x1 x2 x3 x4 x5 x6 x7 x8 x9 x10 x11 x12 x13 x14 x15 x16 x17 x18 x19 x20 x21 x22) (View.ld x11 r0_9) (View.ld x12 r0_10)) (k0_pay17 (k0_pay41 x0 x1 x2 x3 x4 x5 x6 x7 x8 x9 x10 x11 x12 x13 x14 x15 x16 x17 x18 x19 x20 x21 x22) (k0_pay42 x0 x1 x2 x3 x4 x5 x6 x7 x8 x9 x10 x11 x12 x13 x14 x15 x16 x17 x18 x19 x20 x21 x22) (k0_pay44 x0 x1 x2 x3 x4 x5 x6 x7 x8 x9 x10 x11 x12 x13 x14 x15 x16 x17 x18 x19 x20 x21 x22) (k0_pay49 x0 x1 x2 x3 x4 x5 x6 x7 x8 x9 x10 x11 x12 x13 x14 x15 x16 x17 x18 x19 x20 x21 x22) (k0_pay50 x0 x1 x2 x3 x4 x5 x6 x7 x8 x9 x10 x11 x12 x13 x14 x15 x16 x17 x18 x19 x20 x21 x22) (k0_pay51 x0 x1 x2 x3 x4 x5 x6 x7 x8 x9 x10 x11 x12 x13 x14 x15 x16 x17 x18 x19 x20 x21 x22) (View.ld x11 r0_9) (View.ld x12 r0_10)) (k0_pay18 (k0_pay51 x0 x1 x2 x3 x4 x5 x6 x7 x8 x9 x10 x11 x12 x13 x14 x15 x16 x17 x18 x19 x20 x21 x22)) (k0_pay19 (k0_pay41 x0 x1 x2 x3 x4 x5 x6 x7 x8 x9 x10 x11 x12 x13 x14 x15 x16 x17 x18 x19 x20 x21 x22) (k0_pay42 x0 x1 x2 x3 x4 x5 x6 x7 x8 x9 x10 x11 x12 x13 x14 x15 x16 x17 x18 x19 x20 x21 x22) (k0_pay49 x0 x1 x2 x3 x4 x5 x6 x7 x8 x9 x10 x11 x12 x13 x14 x15 x16 x17 x18 x19 x20 x21 x22) (k0_pay50 x0 x1 x2 x3 x4 x5 x6 x7 x8 x9 x10 x11 x12 x13 x14 x15 x16 x17 x18 x19 x20 x21 x22) (View.ld x11 r0_9) (View.ld x12 r0_10)) (View.ld x13 r0_8) (View.ld x14 r0_7)) (k0_pay21 (View.ld x15 r0_7)) (k0_pay22 (View.ld x16 r0_7)) (View.ld x17 r0_11) (View.ld x18 r0_12) (View.ld x19 r0_13) -- `v196`
def k0_pay53 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  k0_pay24 (View.ld x20 r0_7) -- `v199`
def k0_pay54 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  constant S2048x128 .f32 0x00000000#32 -- `cst_117`
def k0_pay55 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  k0_pay26 (k0_pay52 x0 x1 x2 x3 x4 x5 x6 x7 x8 x9 x10 x11 x12 x13 x14 x15 x16 x17 x18 x19 x20 x21 x22) (k0_pay53 x0 x1 x2 x3 x4 x5 x6 x7 x8 x9 x10 x11 x12 x13 x14 x15 x16 x17 x18 x19 x20 x21 x22) (View.ld x5 r0_14) (View.ld x6 r0_14) -- `v228`
def k0_pay56 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S128x128 .f32 :=
  k0_pay28 (View.ld x9 r0_15) -- `v237`
def k0_pay57 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  k0_pay37 (k0_pay41 x0 x1 x2 x3 x4 x5 x6 x7 x8 x9 x10 x11 x12 x13 x14 x15 x16 x17 x18 x19 x20 x21 x22) (k0_pay42 x0 x1 x2 x3 x4 x5 x6 x7 x8 x9 x10 x11 x12 x13 x14 x15 x16 x17 x18 x19 x20 x21 x22) (k0_pay43 x0 x1 x2 x3 x4 x5 x6 x7 x8 x9 x10 x11 x12 x13 x14 x15 x16 x17 x18 x19 x20 x21 x22) (k0_pay44 x0 x1 x2 x3 x4 x5 x6 x7 x8 x9 x10 x11 x12 x13 x14 x15 x16 x17 x18 x19 x20 x21 x22) (k0_pay25 (k0_pay52 x0 x1 x2 x3 x4 x5 x6 x7 x8 x9 x10 x11 x12 x13 x14 x15 x16 x17 x18 x19 x20 x21 x22) (k0_pay53 x0 x1 x2 x3 x4 x5 x6 x7 x8 x9 x10 x11 x12 x13 x14 x15 x16 x17 x18 x19 x20 x21 x22)) (k0_pay29 (k0_pay27 (k0_pay52 x0 x1 x2 x3 x4 x5 x6 x7 x8 x9 x10 x11 x12 x13 x14 x15 x16 x17 x18 x19 x20 x21 x22) (k0_pay53 x0 x1 x2 x3 x4 x5 x6 x7 x8 x9 x10 x11 x12 x13 x14 x15 x16 x17 x18 x19 x20 x21 x22) (View.ld x5 r0_14) (View.ld x6 r0_14) (View.ld x7 r0_15) (View.ld x8 r0_14))) (k0_pay31 (k0_pay42 x0 x1 x2 x3 x4 x5 x6 x7 x8 x9 x10 x11 x12 x13 x14 x15 x16 x17 x18 x19 x20 x21 x22) (k0_pay55 x0 x1 x2 x3 x4 x5 x6 x7 x8 x9 x10 x11 x12 x13 x14 x15 x16 x17 x18 x19 x20 x21 x22) (k0_pay56 x0 x1 x2 x3 x4 x5 x6 x7 x8 x9 x10 x11 x12 x13 x14 x15 x16 x17 x18 x19 x20 x21 x22) (k0_pay54 x0 x1 x2 x3 x4 x5 x6 x7 x8 x9 x10 x11 x12 x13 x14 x15 x16 x17 x18 x19 x20 x21 x22) (View.ld x10 r0_14)) (k0_pay32 (k0_pay55 x0 x1 x2 x3 x4 x5 x6 x7 x8 x9 x10 x11 x12 x13 x14 x15 x16 x17 x18 x19 x20 x21 x22) (View.ld x11 r0_16) (View.ld x12 r0_17)) (k0_pay33 (k0_pay42 x0 x1 x2 x3 x4 x5 x6 x7 x8 x9 x10 x11 x12 x13 x14 x15 x16 x17 x18 x19 x20 x21 x22) (k0_pay55 x0 x1 x2 x3 x4 x5 x6 x7 x8 x9 x10 x11 x12 x13 x14 x15 x16 x17 x18 x19 x20 x21 x22) (k0_pay56 x0 x1 x2 x3 x4 x5 x6 x7 x8 x9 x10 x11 x12 x13 x14 x15 x16 x17 x18 x19 x20 x21 x22) (k0_pay54 x0 x1 x2 x3 x4 x5 x6 x7 x8 x9 x10 x11 x12 x13 x14 x15 x16 x17 x18 x19 x20 x21 x22) (View.ld x10 r0_14) (View.ld x11 r0_16) (View.ld x12 r0_17)) (k0_pay34 (k0_pay42 x0 x1 x2 x3 x4 x5 x6 x7 x8 x9 x10 x11 x12 x13 x14 x15 x16 x17 x18 x19 x20 x21 x22) (k0_pay55 x0 x1 x2 x3 x4 x5 x6 x7 x8 x9 x10 x11 x12 x13 x14 x15 x16 x17 x18 x19 x20 x21 x22) (k0_pay56 x0 x1 x2 x3 x4 x5 x6 x7 x8 x9 x10 x11 x12 x13 x14 x15 x16 x17 x18 x19 x20 x21 x22) (k0_pay54 x0 x1 x2 x3 x4 x5 x6 x7 x8 x9 x10 x11 x12 x13 x14 x15 x16 x17 x18 x19 x20 x21 x22) (View.ld x10 r0_14) (View.ld x11 r0_16) (View.ld x12 r0_17)) (k0_pay35 (k0_pay42 x0 x1 x2 x3 x4 x5 x6 x7 x8 x9 x10 x11 x12 x13 x14 x15 x16 x17 x18 x19 x20 x21 x22) (k0_pay55 x0 x1 x2 x3 x4 x5 x6 x7 x8 x9 x10 x11 x12 x13 x14 x15 x16 x17 x18 x19 x20 x21 x22) (k0_pay56 x0 x1 x2 x3 x4 x5 x6 x7 x8 x9 x10 x11 x12 x13 x14 x15 x16 x17 x18 x19 x20 x21 x22) (k0_pay54 x0 x1 x2 x3 x4 x5 x6 x7 x8 x9 x10 x11 x12 x13 x14 x15 x16 x17 x18 x19 x20 x21 x22) (View.ld x10 r0_14) (View.ld x11 r0_16) (View.ld x12 r0_17)) (k0_pay36 (k0_pay55 x0 x1 x2 x3 x4 x5 x6 x7 x8 x9 x10 x11 x12 x13 x14 x15 x16 x17 x18 x19 x20 x21 x22) (k0_pay56 x0 x1 x2 x3 x4 x5 x6 x7 x8 x9 x10 x11 x12 x13 x14 x15 x16 x17 x18 x19 x20 x21 x22) (k0_pay54 x0 x1 x2 x3 x4 x5 x6 x7 x8 x9 x10 x11 x12 x13 x14 x15 x16 x17 x18 x19 x20 x21 x22) (View.ld x10 r0_14)) (View.ld x13 r0_15) -- `v326`
def k0_pay58 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x128 .f32 :=
  k0_pay38 (k0_pay57 x0 x1 x2 x3 x4 x5 x6 x7 x8 x9 x10 x11 x12 x13 x14 x15 x16 x17 x18 x19 x20 x21 x22) (View.ld x14 r0_14) -- `v330`
def k0_pay59 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : FVec F S2048x512 .f32 :=
  k0_pay39 (k0_pay57 x0 x1 x2 x3 x4 x5 x6 x7 x8 x9 x10 x11 x12 x13 x14 x15 x16 x17 x18 x19 x20 x21 x22) (View.ld x14 r0_14) (View.ld x15 r0_14) (View.ld x16 r0_14) (View.ld x17 r0_18) (View.ld x18 r0_19) -- `v365`

/-- Window 23's staging buffer after the body, from the input windows' blocks: its 1 store as pieces, LAST
    FIRST (Lib/Pipeline/FrameBody.lean `View.canon`; the payloads are the skeleton's and the values stated above). -/
def out0_23 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : Vec F S1x2048x128 .f32 :=
  View.canon [⟨r0_0, k0_pay2 (k0_pay58 x0 x1 x2 x3 x4 x5 x6 x7 x8 x9 x10 x11 x12 x13 x14 x15 x16 x17 x18 x19 x20 x21 x22) (k0_pay59 x0 x1 x2 x3 x4 x5 x6 x7 x8 x9 x10 x11 x12 x13 x14 x15 x16 x17 x18 x19 x20 x21 x22) (Scalar.ofBits .f32 0x00000000#32) (View.ld x19 r0_20) (View.ld x20 r0_14)⟩]

/-- Its stores tile the buffer (checked by evaluation), so they cover it. -/
theorem cover0_23 (p0 : Vec F S1x2048x128 .f32) (y : S1x2048x128.Idx) :
    ∃ pc ∈ ([⟨r0_0, p0⟩] : List (View.Piece (Elt F) S1x2048x128 .f32)), y ∈ pc.1.set :=
  View.cover_of_tiled [⟨r0_0, p0⟩] S1x2048x128.size (by rfl) y

/-- Window 24's staging buffer after the body, from the input windows' blocks: its 1 store as pieces, LAST
    FIRST (Lib/Pipeline/FrameBody.lean `View.canon`; the payloads are the skeleton's and the values stated above). -/
def out0_24 (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) : Vec F S1x128x128 .f32 :=
  View.canon [⟨r0_21, k0_pay3 (k0_pay42 x0 x1 x2 x3 x4 x5 x6 x7 x8 x9 x10 x11 x12 x13 x14 x15 x16 x17 x18 x19 x20 x21 x22) (k0_pay58 x0 x1 x2 x3 x4 x5 x6 x7 x8 x9 x10 x11 x12 x13 x14 x15 x16 x17 x18 x19 x20 x21 x22) (k0_pay59 x0 x1 x2 x3 x4 x5 x6 x7 x8 x9 x10 x11 x12 x13 x14 x15 x16 x17 x18 x19 x20 x21 x22) (Scalar.ofBits .f32 0x00000000#32) (View.ld x19 r0_20) (View.ld x20 r0_14)⟩]

/-- Its stores tile the buffer (checked by evaluation), so they cover it. -/
theorem cover0_24 (p0 : Vec F S1x128x128 .f32) (y : S1x128x128.Idx) :
    ∃ pc ∈ ([⟨r0_21, p0⟩] : List (View.Piece (Elt F) S1x128x128 .f32)), y ∈ pc.1.set :=
  View.cover_of_tiled [⟨r0_21, p0⟩] S1x128x128.size (by rfl) y

/-! ## The body's triple -/

set_option maxHeartbeats 4824000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x2048x128 .f32) (harg1 : arg1.IsWhole) (arg2 : Memref sig .tc .vmem S1x2048x1 .i32) (harg2 : arg2.IsWhole) (arg3 : Memref sig .tc .vmem S1x1x2048 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x1x128 .f32) (harg6 : arg6.IsWhole) (arg7 : Memref sig .tc .vmem S2x1x128 .f32) (harg7 : arg7.IsWhole) (arg8 : Memref sig .tc .vmem S2x128x128 .f32) (harg8 : arg8.IsWhole) (arg9 : Memref sig .tc .vmem S2x1x128 .f32) (harg9 : arg9.IsWhole) (arg10 : Memref sig .tc .vmem S2x128x128 .f32) (harg10 : arg10.IsWhole) (arg11 : Memref sig .tc .vmem S2x1x128 .f32) (harg11 : arg11.IsWhole) (arg12 : Memref sig .tc .vmem S2x128x4096 .f32) (harg12 : arg12.IsWhole) (arg13 : Memref sig .tc .vmem S2x1x4096 .f32) (harg13 : arg13.IsWhole) (arg14 : Memref sig .tc .vmem S2x128x128 .f32) (harg14 : arg14.IsWhole) (arg15 : Memref sig .tc .vmem S2x1x128 .f32) (harg15 : arg15.IsWhole) (arg16 : Memref sig .tc .vmem S2x1x128 .f32) (harg16 : arg16.IsWhole) (arg17 : Memref sig .tc .vmem S2x1x128 .f32) (harg17 : arg17.IsWhole) (arg18 : Memref sig .tc .vmem S2x128x512 .f32) (harg18 : arg18.IsWhole) (arg19 : Memref sig .tc .vmem S2x1x512 .f32) (harg19 : arg19.IsWhole) (arg20 : Memref sig .tc .vmem S2x512x128 .f32) (harg20 : arg20.IsWhole) (arg21 : Memref sig .tc .vmem S2x1x128 .f32) (harg21 : arg21.IsWhole) (arg22 : Memref sig .tc .vmem S1024x32 .f32) (harg22 : arg22.IsWhole) (arg23 : Memref sig .tc .vmem S128x4 .f32) (harg23 : arg23.IsWhole) (arg24 : Memref sig .tc .vmem S1x2048x128 .f32) (harg24 : arg24.IsWhole) (arg25 : Memref sig .tc .vmem S1x128x128 .f32) (harg25 : arg25.IsWhole)
    (x0 : Vec F S1x2048x128 .f32) (x1 : Vec F S1x2048x1 .i32) (x2 : Vec F S1x1x2048 .i32) (x3 : Vec F S128x128 .f32) (x4 : Vec F S1x128 .f32) (x5 : Vec F S2x1x128 .f32) (x6 : Vec F S2x1x128 .f32) (x7 : Vec F S2x128x128 .f32) (x8 : Vec F S2x1x128 .f32) (x9 : Vec F S2x128x128 .f32) (x10 : Vec F S2x1x128 .f32) (x11 : Vec F S2x128x4096 .f32) (x12 : Vec F S2x1x4096 .f32) (x13 : Vec F S2x128x128 .f32) (x14 : Vec F S2x1x128 .f32) (x15 : Vec F S2x1x128 .f32) (x16 : Vec F S2x1x128 .f32) (x17 : Vec F S2x128x512 .f32) (x18 : Vec F S2x1x512 .f32) (x19 : Vec F S2x512x128 .f32) (x20 : Vec F S2x1x128 .f32) (x21 : Vec F S1024x32 .f32) (x22 : Vec F S128x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (out0_23 x0 x1 x2 x3 x4 x5 x6 x7 x8 x9 x10 x11 x12 x13 x14 x15 x16 x17 x18 x19 x20 x21 x22) ∗ owns (c : Thread nD τ) arg25 fullShare (out0_24 x0 x1 x2 x3 x4 x5 x6 x7 x8 x9 x10 x11 x12 x13 x14 x15 x16 x17 x18 x19 x20 x21 x22)) -∗ K ⟨⟩))
      ⊢ wp frame (wpE (defs₀ (F := F)) Variants.none c none) E (cc0__encoder_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__encoder_body_eq_skeleton]; unfold cc0__encoder_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.KernelIdeal.Gen

end
-- ==== Proof.IdealBlocks.lean ====
/- What each grid point of `KernelIdeal` writes back, and the run with both output arrays named. -/
module

public import proofs.«01_k».proof.Proof.IdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 23).cut (grid0.coords t) ((dats m 0 c).after 23 t) = _
  rw [after0_23]

/-- The index map sends distinct grid points to distinct block indices (decided over the 4 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S4x2048x128.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 24).cut (grid0.coords t) ((dats m 0 c).after 24 t) = _
  rw [after0_24]

/-- The index map sends distinct grid points to distinct block indices (decided over the 4 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S4x128x128.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v39_0) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v39_1) = (dats m 0 c).arrAt 24 cfg0.N :=
  (h c).1 24

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 7 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 7).trans (((dats m 0 c).arrAt_in 7 rfl _).trans ((A_eq m c 7).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 9 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 9).trans (((dats m 0 c).arrAt_in 9 rfl _).trans ((A_eq m c 9).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: input window 13 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 13).trans (((dats m 0 c).arrAt_in 13 rfl _).trans ((A_eq m c 13).trans (V_main_arg12 m c)))

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: input window 17 stages it and never writes it back. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 17).trans (((dats m 0 c).arrAt_in 17 rfl _).trans ((A_eq m c 17).trans (V_main_arg16 m c)))

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: input window 19 stages it and never writes it back. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 19).trans (((dats m 0 c).arrAt_in 19 rfl _).trans ((A_eq m c 19).trans (V_main_arg18 m c)))

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v39_0) = (dats m 0 c).arrAt 23 cfg0.N
      ∧ r.2.mem ((c : Thread nD τ).loc main_v39_1) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c⟩)
    (run_main m ρ)

end Cert.KernelIdeal.Value

end
-- ==== Proof.Spec.lean ====
/- What the encoder computes, over the extended reals: one token's layer normalisation, the positive feature map of the
   linearised attention, the sums over the tokens of one patch, one layer, two layers, and the patch means.

   Tokens of one sample are numbered by `Fin 2048`, features by `Fin 128`; head `j / 32` owns the features
   `32 * (j / 32) + e`, `e < 32`. -/
module

public import Idealize.ShloMosaic.PureOps.Ideal

@[expose] public section

noncomputable section

namespace Cert.Spec

open Idealize.ShloMosaic

/-- The feature count 128 as the programs write it. -/
def c128 : EReal := Ideal.ofBits .f32 0x43000000#32
/-- The constant added to a variance (1e-5). -/
def epsLn : EReal := Ideal.ofBits .f32 0x3727C5AC#32
/-- The constant added to an attention denominator (1e-6). -/
def epsAtt : EReal := Ideal.ofBits .f32 0x358637BD#32

/-- The mean of one token's features. -/
def mean (x : Fin 128 → EReal) : EReal := Ideal.div (∑ k, x k) c128

/-- The variance of one token's features. -/
def var (x : Fin 128 → EReal) : EReal := Ideal.div (∑ k, (x k - mean x) * (x k - mean x)) c128

/-- Layer normalisation of one token with scale `g` and shift `b`. -/
def ln (x g b : Fin 128 → EReal) (d : Fin 128) : EReal :=
  (x d - mean x) * Ideal.rsqrt (var x + epsLn) * g d + b d

/-- The feature map `elu z + 1`: `z + 1` where `z` is positive, `exp z` elsewhere. -/
def phi (z : EReal) : EReal := if 0 < z then z + 1 else Ideal.exp z

/-- An affine map of one token's features. -/
def lin {a b : ℕ} (x : Fin a → EReal) (W : Fin a → Fin b → EReal) (c : Fin b → EReal) (j : Fin b) : EReal :=
  (∑ k, x k * W k j) + c j

/-- The sum of `f` over the tokens whose patch is token `n`'s. -/
def patchSum (ids : Fin 2048 → BitVec 32) (f : Fin 2048 → EReal) (n : Fin 2048) : EReal :=
  ∑ t, if ids t = ids n then f t else 0

/-- Feature `e` of the head that owns feature `j`. -/
def feat (j : Fin 128) (e : Fin 32) : Fin 128 := ⟨32 * (j.val / 32) + e.val, by omega⟩

/-- Linearised attention within a token's patch, at feature `j`: `∑_d pq_d * (∑ pk_d * v_j) / (∑_d pq_d * ∑ pk_d + ε)`,
    `d` over the features of `j`'s head and the inner sums over the tokens of the patch. -/
def attn (ids : Fin 2048 → BitVec 32) (pq pk v : Fin 2048 → Fin 128 → EReal) (n : Fin 2048) (j : Fin 128) : EReal :=
  Ideal.div (∑ e : Fin 32, pq n (feat j e) * patchSum ids (fun t => pk t (feat j e) * v t j) n)
    ((∑ e : Fin 32, pq n (feat j e) * patchSum ids (fun t => pk t (feat j e)) n) + epsAtt)

/-- One layer's parameters. -/
structure Params where
  g1 : Fin 128 → EReal
  b1 : Fin 128 → EReal
  Wq : Fin 128 → Fin 128 → EReal
  bq : Fin 128 → EReal
  Wk : Fin 128 → Fin 128 → EReal
  bk : Fin 128 → EReal
  Wv : Fin 128 → Fin 128 → EReal
  bv : Fin 128 → EReal
  Wo : Fin 128 → Fin 128 → EReal
  bo : Fin 128 → EReal
  g2 : Fin 128 → EReal
  b2 : Fin 128 → EReal
  W1 : Fin 128 → Fin 512 → EReal
  c1 : Fin 512 → EReal
  W2 : Fin 512 → Fin 128 → EReal
  c2 : Fin 128 → EReal

/-- The attention half of a layer, with its residual. -/
def attnHalf (P : Params) (ids : Fin 2048 → BitVec 32) (h : Fin 2048 → Fin 128 → EReal) (n : Fin 2048) (d : Fin 128) :
    EReal :=
  h n d + (∑ j, attn ids (fun t i => phi (lin (ln (h t) P.g1 P.b1) P.Wq P.bq i))
    (fun t i => phi (lin (ln (h t) P.g1 P.b1) P.Wk P.bk i)) (fun t i => lin (ln (h t) P.g1 P.b1) P.Wv P.bv i) n j
      * P.Wo j d) + P.bo d

/-- The feed-forward half of a layer for one token, with its residual. -/
def ffHalf (P : Params) (x : Fin 128 → EReal) (d : Fin 128) : EReal :=
  x d + (∑ f, max (lin (ln x P.g2 P.b2) P.W1 P.c1 f) 0 * P.W2 f d) + P.c2 d

/-- One layer. -/
def layer (P : Params) (ids : Fin 2048 → BitVec 32) (h : Fin 2048 → Fin 128 → EReal) (n : Fin 2048) : Fin 128 → EReal :=
  ffHalf P (attnHalf P ids h n)

/-- The encoder: the input projection, then two layers. -/
def encode (P0 P1 : Params) (Win : Fin 128 → Fin 128 → EReal) (bin : Fin 128 → EReal) (ids : Fin 2048 → BitVec 32)
    (x : Fin 2048 → Fin 128 → EReal) : Fin 2048 → Fin 128 → EReal :=
  layer P1 ids (layer P0 ids fun n => lin (x n) Win bin)

/-- The mean over patch `p`, the count at least one. -/
def summary (ids : Fin 2048 → BitVec 32) (h : Fin 2048 → Fin 128 → EReal) (p d : Fin 128) : EReal :=
  Ideal.div (∑ t, if ids t = BitVec.ofNat 32 p.val then h t d else 0)
    (max (∑ t : Fin 2048, if ids t = BitVec.ofNat 32 p.val then 1 else 0) 1)

end Cert.Spec

end
-- ==== Proof.KVec.lean ====
/- The kernel body's vector computations over one sample's 2048 tokens, one layer at a time, and their elements. -/
module

public import proofs.«01_k».proof.Proof.Spec
public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KVec

open Idealize.ShloMosaic Cert.KernelIdeal Cert.KernelIdeal.Facts Cert.KernelIdeal.Gen Cert.Spec

/-- Two reads of a matrix at indices with equal coordinates. -/
theorem read2 {α : Type} {a b : ℕ} (f : (⟨2, ![a, b]⟩ : Shape).Idx → α) {i i' : Fin a} {j j' : Fin b}
    (hi : i.val = i'.val) (hj : j.val = j'.val) : f (ix2 i j) = f (ix2 i' j') := by
  rw [Fin.ext hi, Fin.ext hj]

theorem mul_eq {a b c d : EReal} (h : a = c) (k : b = d) : a * b = c * d := by rw [h, k]

/-- Layer normalisation of a sample's tokens. -/
def vLn (h : FVec Ideal S2048x128 .f32) (g b : FVec Ideal S1x128 .f32) : FVec Ideal S2048x128 .f32 :=
  k0_pay13 h g b (shapeCast S2048x1 (multiReduction .add [1] S2048 h 0x00000000#32 reduces_S2048x128_S2048 (.inl rfl) rfl)
    shapeCasts_S2048_S2048x1) k0_pay12

theorem vLn_apply (h : FVec Ideal S2048x128 .f32) (g b : FVec Ideal S1x128 .f32) (n : Fin 2048) (d : Fin 128) :
    vLn h g b (ix2 n d) = ln (fun k => h (ix2 n k)) (fun k => g (ix2 0 k)) (fun k => b (ix2 0 k)) d := by
  unfold vLn
  pointwise [k0_pay13, k0_pay12]
  rfl

/-- An affine map of a sample's tokens. -/
def vLin (y : FVec Ideal S2048x128 .f32) (W : FVec Ideal S128x128 .f32) (b : FVec Ideal S1x128 .f32) :
    FVec Ideal S2048x128 .f32 :=
  addf (matmul dot_S2048x128_S128x128_S2048x128_1_0_0_1_n_n none y W (constant S2048x128 .f32 0x00000000#32))
    (broadcastTo S2048x128 b broadcasts_S1x128_S2048x128)

theorem vLin_apply (y : FVec Ideal S2048x128 .f32) (W : FVec Ideal S128x128 .f32) (b : FVec Ideal S1x128 .f32)
    (n : Fin 2048) (j : Fin 128) :
    vLin y W b (ix2 n j) = lin (fun k => y (ix2 n k)) (fun k j => W (ix2 k j)) (fun j => b (ix2 0 j)) j := by
  unfold vLin
  pointwise
  rfl

/-- The feature map on a sample's tokens. -/
def vPhi (x : FVec Ideal S2048x128 .f32) : FVec Ideal S2048x128 .f32 := k0_pay29 x

theorem vPhi_apply (x : FVec Ideal S2048x128 .f32) (n : Fin 2048) (j : Fin 128) :
    vPhi x (ix2 n j) = phi (x (ix2 n j)) := by
  unfold vPhi phi
  pointwise [k0_pay29]

/-- The values, each repeated for the 32 features of its head. -/
def vRep (y : FVec Ideal S2048x128 .f32) (W : FVec Ideal S128x4096 .f32) (b : FVec Ideal S1x4096 .f32) :
    FVec Ideal S2048x4096 .f32 :=
  addf (matmul dot_S2048x128_S128x4096_S2048x4096_1_0_0_1_n_n none y W (constant S2048x4096 .f32 0x00000000#32))
    (broadcastTo S2048x4096 b broadcasts_S1x4096_S2048x4096)

theorem vRep_apply (y : FVec Ideal S2048x128 .f32) (W : FVec Ideal S128x4096 .f32) (b : FVec Ideal S1x4096 .f32)
    (n : Fin 2048) (j : Fin 4096) :
    vRep y W b (ix2 n j) = lin (fun k => y (ix2 n k)) (fun k j => W (ix2 k j)) (fun j => b (ix2 0 j)) j := by
  unfold vRep
  pointwise
  rfl

/-- Thirty-two copies side by side. -/
def rep32 (x : FVec Ideal S2048x32 .f32) : FVec Ideal S2048x1024 .f32 :=
  concatenate S2048x1024 1 [⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩, ⟨S2048x32, x⟩]
    concatenates_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x1024_d1

theorem rep32_apply (x : FVec Ideal S2048x32 .f32) (n : Fin 2048) (j : Fin 1024) :
    rep32 x (ix2 n j) = x (ix2 n ⟨j.val % 32, by omega⟩) := by
  refine concatenate_replicate_apply (1 : Fin S2048x1024.rank) 32 x _ rfl (ix2 n j) (ix2 n ⟨j.val % 32, by omega⟩) rfl ?_
  intro b hb
  match b with
  | 0 => rfl
  | 1 => exact absurd rfl hb

/-- Per patch, the sums over its tokens of one head's keys times values. -/
def pairKV (AT : FVec Ideal S128x2048 .f32) (k : FVec Ideal S2048x32 .f32) (v : FVec Ideal S2048x1024 .f32) :
    FVec Ideal S128x1024 .f32 :=
  matmul dot_S128x2048_S2048x1024_S128x1024_1_0_0_1_n_n none AT (mulf (rep32 k) v) (constant S128x1024 .f32 0x00000000#32)

theorem pairKV_apply (AT : FVec Ideal S128x2048 .f32) (k : FVec Ideal S2048x32 .f32) (v : FVec Ideal S2048x1024 .f32)
    (p : Fin 128) (j : Fin 1024) :
    pairKV AT k v (ix2 p j) = ∑ t : Fin 2048, AT (ix2 p t) * (k (ix2 t ⟨j.val % 32, by omega⟩) * v (ix2 t j)) := by
  unfold pairKV
  pointwise [rep32_apply]

/-- Per patch: the four heads' key-value sums, then the key sums. -/
def pack (AT : FVec Ideal S128x2048 .f32) (pk : FVec Ideal S2048x128 .f32) (v : FVec Ideal S2048x4096 .f32) :
    FVec Ideal S128x4224 .f32 :=
  concatenate S128x4224 1 [
    ⟨S128x1024, pairKV AT (extractStridedSlice S2048x32 ![0, 0] pk slices_S2048x128_o0_0_S2048x32)
      (extractStridedSlice S2048x1024 ![0, 0] v slices_S2048x4096_o0_0_S2048x1024)⟩,
    ⟨S128x1024, pairKV AT (extractStridedSlice S2048x32 ![0, 32] pk slices_S2048x128_o0_32_S2048x32)
      (extractStridedSlice S2048x1024 ![0, 1024] v slices_S2048x4096_o0_1024_S2048x1024)⟩,
    ⟨S128x1024, pairKV AT (extractStridedSlice S2048x32 ![0, 64] pk slices_S2048x128_o0_64_S2048x32)
      (extractStridedSlice S2048x1024 ![0, 2048] v slices_S2048x4096_o0_2048_S2048x1024)⟩,
    ⟨S128x1024, pairKV AT (extractStridedSlice S2048x32 ![0, 96] pk slices_S2048x128_o0_96_S2048x32)
      (extractStridedSlice S2048x1024 ![0, 3072] v slices_S2048x4096_o0_3072_S2048x1024)⟩,
    ⟨S128x128, matmul dot_S128x2048_S2048x128_S128x128_1_0_0_1_n_n none AT pk (constant S128x128 .f32 0x00000000#32)⟩]
    concatenates_S128x1024_S128x1024_S128x1024_S128x1024_S128x128_S128x4224_d1

theorem pack_kv (AT : FVec Ideal S128x2048 .f32) (pk : FVec Ideal S2048x128 .f32) (v : FVec Ideal S2048x4096 .f32)
    (p : Fin 128) (hd : Fin 4) (j : Fin 1024) :
    pack AT pk v (ix2 p ⟨1024 * hd.val + j.val, by omega⟩) = ∑ t : Fin 2048, AT (ix2 p t) *
      (pk (ix2 t ⟨32 * hd.val + j.val % 32, by omega⟩) * v (ix2 t ⟨1024 * hd.val + j.val, by omega⟩)) := by
  unfold pack
  pointwise [pairKV_apply]
  split_ifs <;> try (rename_i h; exact absurd (Eq.refl _) h)
  all_goals first
    | omega
    | refine Finset.sum_congr rfl fun t _ => mul_eq rfl (mul_eq (read2 pk rfl ?_) (read2 v rfl ?_))
      · simp only [] <;> omega
      · simp only [] <;> omega

theorem pack_k (AT : FVec Ideal S128x2048 .f32) (pk : FVec Ideal S2048x128 .f32) (v : FVec Ideal S2048x4096 .f32)
    (p j : Fin 128) :
    pack AT pk v (ix2 p ⟨4096 + j.val, by omega⟩) = ∑ t : Fin 2048, AT (ix2 p t) * pk (ix2 t j) := by
  unfold pack
  pointwise
  split_ifs <;> try (rename_i h; exact absurd (Eq.refl _) h)
  all_goals first
    | omega
    | refine Finset.sum_congr rfl fun t _ => mul_eq rfl (read2 pk rfl ?_)
      simp only [] <;> omega

/-- The patch sums handed back to each token. -/
def giant (A : FVec Ideal S2048x128 .f32) (AT : FVec Ideal S128x2048 .f32) (pk : FVec Ideal S2048x128 .f32)
    (v : FVec Ideal S2048x4096 .f32) : FVec Ideal S2048x4224 .f32 :=
  matmul dot_S2048x128_S128x4224_S2048x4224_1_0_0_1_n_n none A (pack AT pk v) (constant S2048x4224 .f32 0x00000000#32)

theorem giant_apply (A : FVec Ideal S2048x128 .f32) (AT : FVec Ideal S128x2048 .f32) (pk : FVec Ideal S2048x128 .f32)
    (v : FVec Ideal S2048x4096 .f32) (n : Fin 2048) (j : Fin 4224) :
    giant A AT pk v (ix2 n j) = ∑ p : Fin 128, A (ix2 n p) * pack AT pk v (ix2 p j) := by
  unfold giant
  pointwise

/-- The four heads' denominators. -/
def vDen (pq : FVec Ideal S2048x128 .f32) (G : FVec Ideal S2048x4224 .f32) (D : FVec Ideal S128x4 .f32) :
    FVec Ideal S2048x4 .f32 :=
  addf (matmul dot_S2048x128_S128x4_S2048x4_1_0_0_1_n_n none
    (mulf pq (extractStridedSlice S2048x128 ![0, 4096] G slices_S2048x4224_o0_4096_S2048x128)) D
    (constant S2048x4 .f32 0x00000000#32)) (broadcast S2048x4 (Scalar.ofBits (F := Ideal) .f32 0x358637BD#32))

theorem vDen_apply (pq : FVec Ideal S2048x128 .f32) (G : FVec Ideal S2048x4224 .f32) (D : FVec Ideal S128x4 .f32)
    (n : Fin 2048) (hd : Fin 4) :
    vDen pq G D (ix2 n hd)
      = (∑ k : Fin 128, pq (ix2 n k) * G (ix2 n ⟨4096 + k.val, by omega⟩) * D (ix2 k hd)) + epsAtt := by
  unfold vDen
  pointwise
  rfl

/-- One head's attention output. -/
def headOut (pq : FVec Ideal S2048x32 .f32) (g : FVec Ideal S2048x1024 .f32) (M : FVec Ideal S1024x32 .f32)
    (den : FVec Ideal S2048x1 .f32) : FVec Ideal S2048x32 .f32 :=
  divf (matmul dot_S2048x1024_S1024x32_S2048x32_1_0_0_1_n_n none (mulf (rep32 pq) g) M
    (constant S2048x32 .f32 0x00000000#32)) (broadcastTo S2048x32 den broadcasts_S2048x1_S2048x32)

theorem headOut_apply (pq : FVec Ideal S2048x32 .f32) (g : FVec Ideal S2048x1024 .f32) (M : FVec Ideal S1024x32 .f32)
    (den : FVec Ideal S2048x1 .f32) (n : Fin 2048) (e : Fin 32) :
    headOut pq g M den (ix2 n e) = Ideal.div
      (∑ j : Fin 1024, pq (ix2 n ⟨j.val % 32, by omega⟩) * g (ix2 n j) * M (ix2 j e)) (den (ix2 n 0)) := by
  unfold headOut
  pointwise [rep32_apply]

/-- The four heads' outputs side by side. -/
def heads (pq : FVec Ideal S2048x128 .f32) (G : FVec Ideal S2048x4224 .f32) (M : FVec Ideal S1024x32 .f32)
    (den : FVec Ideal S2048x4 .f32) : FVec Ideal S2048x128 .f32 :=
  concatenate S2048x128 1 [
    ⟨S2048x32, headOut (extractStridedSlice S2048x32 ![0, 0] pq slices_S2048x128_o0_0_S2048x32)
      (extractStridedSlice S2048x1024 ![0, 0] G slices_S2048x4224_o0_0_S2048x1024) M
      (extractStridedSlice S2048x1 ![0, 0] den slices_S2048x4_o0_0_S2048x1)⟩,
    ⟨S2048x32, headOut (extractStridedSlice S2048x32 ![0, 32] pq slices_S2048x128_o0_32_S2048x32)
      (extractStridedSlice S2048x1024 ![0, 1024] G slices_S2048x4224_o0_1024_S2048x1024) M
      (extractStridedSlice S2048x1 ![0, 1] den slices_S2048x4_o0_1_S2048x1)⟩,
    ⟨S2048x32, headOut (extractStridedSlice S2048x32 ![0, 64] pq slices_S2048x128_o0_64_S2048x32)
      (extractStridedSlice S2048x1024 ![0, 2048] G slices_S2048x4224_o0_2048_S2048x1024) M
      (extractStridedSlice S2048x1 ![0, 2] den slices_S2048x4_o0_2_S2048x1)⟩,
    ⟨S2048x32, headOut (extractStridedSlice S2048x32 ![0, 96] pq slices_S2048x128_o0_96_S2048x32)
      (extractStridedSlice S2048x1024 ![0, 3072] G slices_S2048x4224_o0_3072_S2048x1024) M
      (extractStridedSlice S2048x1 ![0, 3] den slices_S2048x4_o0_3_S2048x1)⟩]
    concatenates_S2048x32_S2048x32_S2048x32_S2048x32_S2048x128_d1

theorem heads_apply (pq : FVec Ideal S2048x128 .f32) (G : FVec Ideal S2048x4224 .f32) (M : FVec Ideal S1024x32 .f32)
    (den : FVec Ideal S2048x4 .f32) (n : Fin 2048) (i : Fin 128) :
    heads pq G M den (ix2 n i) = Ideal.div
      (∑ j : Fin 1024, pq (ix2 n ⟨32 * (i.val / 32) + j.val % 32, by omega⟩)
        * G (ix2 n ⟨1024 * (i.val / 32) + j.val, by omega⟩) * M (ix2 j ⟨i.val % 32, by omega⟩))
      (den (ix2 n ⟨i.val / 32, by omega⟩)) := by
  unfold heads
  pointwise [headOut_apply]
  split_ifs <;> try (rename_i h; exact absurd (Eq.refl _) h)
  all_goals
    refine congrArg₂ Ideal.div (Finset.sum_congr rfl fun t _ => mul_eq (mul_eq (read2 pq rfl ?_) (read2 G rfl ?_))
      (read2 M rfl ?_)) (read2 den rfl ?_)
    all_goals first
      | omega
      | (simp only [] <;> omega)
      | (simp; omega)

/-- The attention half of a layer. -/
def vAttn (h : FVec Ideal S2048x128 .f32) (at' : FVec Ideal S2048x128 .f32) (Wo : FVec Ideal S128x128 .f32)
    (bo : FVec Ideal S1x128 .f32) : FVec Ideal S2048x128 .f32 :=
  addf (addf h (matmul dot_S2048x128_S128x128_S2048x128_1_0_0_1_n_n none at' Wo (constant S2048x128 .f32 0x00000000#32)))
    (broadcastTo S2048x128 bo broadcasts_S1x128_S2048x128)

theorem vAttn_apply (h : FVec Ideal S2048x128 .f32) (at' : FVec Ideal S2048x128 .f32) (Wo : FVec Ideal S128x128 .f32)
    (bo : FVec Ideal S1x128 .f32) (n : Fin 2048) (d : Fin 128) :
    vAttn h at' Wo bo (ix2 n d) = h (ix2 n d) + (∑ j : Fin 128, at' (ix2 n j) * Wo (ix2 j d)) + bo (ix2 0 d) := by
  unfold vAttn
  pointwise

/-- The feed-forward half of a layer. -/
def vFf (h : FVec Ideal S2048x128 .f32) (g b : FVec Ideal S1x128 .f32) (W1 : FVec Ideal S128x512 .f32)
    (c1 : FVec Ideal S1x512 .f32) (W2 : FVec Ideal S512x128 .f32) (c2 : FVec Ideal S1x128 .f32) :
    FVec Ideal S2048x128 .f32 :=
  addf (addf h (matmul dot_S2048x512_S512x128_S2048x128_1_0_0_1_n_n none
    (maximumf (addf (matmul dot_S2048x128_S128x512_S2048x512_1_0_0_1_n_n none (vLn h g b) W1
      (constant S2048x512 .f32 0x00000000#32)) (broadcastTo S2048x512 c1 broadcasts_S1x512_S2048x512))
      (broadcast S2048x512 (Scalar.ofBits (F := Ideal) .f32 0x00000000#32))) W2
    (constant S2048x128 .f32 0x00000000#32))) (broadcastTo S2048x128 c2 broadcasts_S1x128_S2048x128)

theorem vFf_apply (h : FVec Ideal S2048x128 .f32) (g b : FVec Ideal S1x128 .f32) (W1 : FVec Ideal S128x512 .f32)
    (c1 : FVec Ideal S1x512 .f32) (W2 : FVec Ideal S512x128 .f32) (c2 : FVec Ideal S1x128 .f32) (n : Fin 2048)
    (d : Fin 128) :
    vFf h g b W1 c1 W2 c2 (ix2 n d) = h (ix2 n d) + (∑ f : Fin 512,
      max (lin (ln (fun k => h (ix2 n k)) (fun k => g (ix2 0 k)) (fun k => b (ix2 0 k))) (fun k f => W1 (ix2 k f))
        (fun f => c1 (ix2 0 f)) f) 0 * W2 (ix2 f d)) + c2 (ix2 0 d) := by
  unfold vFf
  pointwise [vLn_apply]
  rfl

/-- An equality test read as a number is one or zero. -/
theorem sitofp_eq (a b : BitVec 32) :
    (FloatOps.sitofp .f32 (BitVec.setWidth 32 (IntOp.cmpi .eq a b)) : Ideal .f32) = if a = b then (1 : EReal) else 0 := by
  show (((BitVec.setWidth 32 (IntOp.cmpi .eq a b)).toInt : ℝ) : EReal) = _
  by_cases h : a = b
  · subst h; simp [IntOp.cmpi]
  · have hb : (a == b) = false := by simpa using h
    simp [IntOp.cmpi, hb, h]

/-- The one-hot matrix of token against patch. -/
theorem oneHot_apply (x : Vec Ideal S1x2048x1 .i32) (n : Fin 2048) (p : Fin 128) :
    k0_pay5 (F := Ideal) x (ix2 n p) = if x (ix3 0 n 0) = BitVec.ofNat 32 p.val then 1 else 0 := by
  pointwise [k0_pay5]
  exact sitofp_eq _ _

/-- The one-hot matrix of patch against token. -/
theorem oneHotT_apply (x : Vec Ideal S1x1x2048 .i32) (p : Fin 128) (n : Fin 2048) :
    k0_pay6 (F := Ideal) x (ix2 p n) = if x (ix3 0 0 n) = BitVec.ofNat 32 p.val then 1 else 0 := by
  pointwise [k0_pay6]
  exact sitofp_eq _ _

end Cert.KVec

end
-- ==== Proof.KLayer.lean ====
/- One layer of the kernel body is one layer of the encoder: the one-hot products select a token's patch, the repeated
   values and keys select a head's features. -/
module

public import proofs.«01_k».proof.Proof.KVec

@[expose] public section

set_option maxRecDepth 16384

noncomputable section

namespace Cert.KVec

open Idealize.ShloMosaic Cert.KernelIdeal Cert.KernelIdeal.Facts Cert.KernelIdeal.Gen Cert.Spec

/-- The `32` terms of one block, out of a sum over all. -/
theorem sum_block {N : ℕ} (f : Fin N → EReal) (e : ℕ) (h : 32 * e + 32 ≤ N) :
    (∑ j : Fin N, f j * (if j.val / 32 = e then 1 else 0)) = ∑ d : Fin 32, f ⟨32 * e + d.val, by omega⟩ := by
  simp only [mul_ite, mul_one, mul_zero]
  rw [← Finset.sum_filter]
  symm
  refine Finset.sum_bij (fun d _ => ⟨32 * e + d.val, by omega⟩) ?_ ?_ ?_ ?_
  · intro d _
    simp only [Finset.mem_filter, Finset.mem_univ, true_and]
    omega
  · intro d _ d' _ hd
    have := congrArg Fin.val hd
    simp only [] at this
    exact Fin.ext (by omega)
  · intro j hj
    simp only [Finset.mem_filter, Finset.mem_univ, true_and] at hj
    exact ⟨⟨j.val - 32 * e, by omega⟩, Finset.mem_univ _, Fin.ext (by simp only [] <;> omega)⟩
  · intro d _
    rfl

theorem ofNat_inj {p q : Fin 128} (h : BitVec.ofNat 32 p.val = BitVec.ofNat 32 q.val) : p = q := by
  have := congrArg BitVec.toNat h
  simp only [BitVec.toNat_ofNat] at this
  exact Fin.ext (by omega)

/-- Gathering, after scattering by patch, sums over the token's patch. -/
theorem gather_scatter (ids : Fin 2048 → BitVec 32) (hids : ∀ n, ∃ p : Fin 128, ids n = BitVec.ofNat 32 p.val)
    (f : Fin 2048 → EReal) (n : Fin 2048) :
    (∑ p : Fin 128, (if ids n = BitVec.ofNat 32 p.val then (1 : EReal) else 0)
      * ∑ t, (if ids t = BitVec.ofNat 32 p.val then (1 : EReal) else 0) * f t) = patchSum ids f n := by
  obtain ⟨q, hq⟩ := hids n
  rw [Finset.sum_eq_single q]
  · rw [if_pos hq, one_mul]
    unfold patchSum
    refine Finset.sum_congr rfl fun t _ => ?_
    rw [hq]
    split_ifs <;> simp
  · intro p _ hp
    rw [if_neg, zero_mul]
    intro h
    exact hp (ofNat_inj (h.symm.trans hq))
  · intro h
    exact absurd (Finset.mem_univ q) h

section

variable (A : FVec Ideal S2048x128 .f32) (AT : FVec Ideal S128x2048 .f32) (M : FVec Ideal S1024x32 .f32)
  (D : FVec Ideal S128x4 .f32) (ids : Fin 2048 → BitVec 32)

/-- What the four constant operands are: the one-hot matrices of the patch indices, and the two block-sum matrices. -/
structure Ops : Prop where
  inRange : ∀ n, ∃ p : Fin 128, ids n = BitVec.ofNat 32 p.val
  a : ∀ n p, A (ix2 n p) = if ids n = BitVec.ofNat 32 p.val then 1 else 0
  at' : ∀ p n, AT (ix2 p n) = if ids n = BitVec.ofNat 32 p.val then 1 else 0
  m : ∀ j e, M (ix2 j e) = if j.val / 32 = e.val then 1 else 0
  d : ∀ k hd, D (ix2 k hd) = if k.val / 32 = hd.val then 1 else 0

variable {A AT M D ids}

theorem giant_kv (H : Ops A AT M D ids) (pk : FVec Ideal S2048x128 .f32) (v : FVec Ideal S2048x4096 .f32) (n : Fin 2048)
    (hd : Fin 4) (j : Fin 1024) :
    giant A AT pk v (ix2 n ⟨1024 * hd.val + j.val, by omega⟩) = patchSum ids
      (fun t => pk (ix2 t ⟨32 * hd.val + j.val % 32, by omega⟩) * v (ix2 t ⟨1024 * hd.val + j.val, by omega⟩)) n := by
  rw [giant_apply, ← gather_scatter ids H.inRange]
  refine Finset.sum_congr rfl fun p _ => ?_
  rw [H.a, pack_kv]
  exact mul_eq rfl (Finset.sum_congr rfl fun t _ => by rw [H.at'])

theorem giant_k (H : Ops A AT M D ids) (pk : FVec Ideal S2048x128 .f32) (v : FVec Ideal S2048x4096 .f32) (n : Fin 2048)
    (j : Fin 128) :
    giant A AT pk v (ix2 n ⟨4096 + j.val, by omega⟩) = patchSum ids (fun t => pk (ix2 t j)) n := by
  rw [giant_apply, ← gather_scatter ids H.inRange]
  refine Finset.sum_congr rfl fun p _ => ?_
  rw [H.a, pack_k]
  exact mul_eq rfl (Finset.sum_congr rfl fun t _ => by rw [H.at'])

/-- The attention output, for values repeated along their head's features. -/
theorem heads_attn (H : Ops A AT M D ids) (pq pk : FVec Ideal S2048x128 .f32) (v : FVec Ideal S2048x4096 .f32)
    (w : Fin 2048 → Fin 128 → EReal)
    (hv : ∀ t j, v (ix2 t j) = w t ⟨32 * (j.val / 1024) + j.val % 1024 / 32, by omega⟩) (n : Fin 2048) (i : Fin 128) :
    heads pq (giant A AT pk v) M (vDen pq (giant A AT pk v) D) (ix2 n i)
      = attn ids (fun t k => pq (ix2 t k)) (fun t k => pk (ix2 t k)) w n i := by
  rw [heads_apply, vDen_apply]
  unfold attn
  refine congrArg₂ Ideal.div ?_ (congrArg (· + epsAtt) ?_)
  · simp only [H.m]
    rw [sum_block _ (i.val % 32) (by omega)]
    refine Finset.sum_congr rfl fun e _ => ?_
    refine mul_eq (read2 pq rfl ?_) ?_
    · simp only [feat]; omega
    · rw [giant_kv H pk v n ⟨i.val / 32, by omega⟩ ⟨32 * (i.val % 32) + e.val, by omega⟩]
      refine congrArg (fun f => patchSum ids f n) (funext fun t => ?_)
      refine mul_eq (read2 pk rfl ?_) ?_
      · simp only [feat]; omega
      · rw [hv]
        exact congrArg (w t) (Fin.ext (by simp only []; omega))
  · simp only [H.d]
    rw [sum_block _ (i.val / 32) (by omega)]
    refine Finset.sum_congr rfl fun e _ => ?_
    refine mul_eq (read2 pq rfl ?_) ?_
    · simp only [feat]
    · exact giant_k H pk v n ⟨32 * (i.val / 32) + e.val, by omega⟩

/-- One layer's operands as the body holds them. -/
structure VP where
  g1 : FVec Ideal S1x128 .f32
  b1 : FVec Ideal S1x128 .f32
  Wq : FVec Ideal S128x128 .f32
  bq : FVec Ideal S1x128 .f32
  Wk : FVec Ideal S128x128 .f32
  bk : FVec Ideal S1x128 .f32
  Wr : FVec Ideal S128x4096 .f32
  br : FVec Ideal S1x4096 .f32
  Wo : FVec Ideal S128x128 .f32
  bo : FVec Ideal S1x128 .f32
  g2 : FVec Ideal S1x128 .f32
  b2 : FVec Ideal S1x128 .f32
  W1 : FVec Ideal S128x512 .f32
  c1 : FVec Ideal S1x512 .f32
  W2 : FVec Ideal S512x128 .f32
  c2 : FVec Ideal S1x128 .f32

/-- The attention half of a layer, from the layer's operands. -/
def vAttnHalf (A : FVec Ideal S2048x128 .f32) (AT : FVec Ideal S128x2048 .f32) (M : FVec Ideal S1024x32 .f32)
    (D : FVec Ideal S128x4 .f32) (P : VP) (h : FVec Ideal S2048x128 .f32) : FVec Ideal S2048x128 .f32 :=
  vAttn h (heads (vPhi (vLin (vLn h P.g1 P.b1) P.Wq P.bq))
    (giant A AT (vPhi (vLin (vLn h P.g1 P.b1) P.Wk P.bk)) (vRep (vLn h P.g1 P.b1) P.Wr P.br)) M
    (vDen (vPhi (vLin (vLn h P.g1 P.b1) P.Wq P.bq))
      (giant A AT (vPhi (vLin (vLn h P.g1 P.b1) P.Wk P.bk)) (vRep (vLn h P.g1 P.b1) P.Wr P.br)) D)) P.Wo P.bo

/-- A layer, from its operands. -/
def vLayer (A : FVec Ideal S2048x128 .f32) (AT : FVec Ideal S128x2048 .f32) (M : FVec Ideal S1024x32 .f32)
    (D : FVec Ideal S128x4 .f32) (P : VP) (h : FVec Ideal S2048x128 .f32) : FVec Ideal S2048x128 .f32 :=
  vFf (vAttnHalf A AT M D P h) P.g2 P.b2 P.W1 P.c1 P.W2 P.c2

/-- The operands hold the parameters `Q`. -/
structure Holds (P : VP) (Q : Params) : Prop where
  g1 : ∀ k, P.g1 (ix2 0 k) = Q.g1 k
  b1 : ∀ k, P.b1 (ix2 0 k) = Q.b1 k
  Wq : ∀ k j, P.Wq (ix2 k j) = Q.Wq k j
  bq : ∀ k, P.bq (ix2 0 k) = Q.bq k
  Wk : ∀ k j, P.Wk (ix2 k j) = Q.Wk k j
  bk : ∀ k, P.bk (ix2 0 k) = Q.bk k
  Wr : ∀ k (j : Fin 4096), P.Wr (ix2 k j) = Q.Wv k ⟨32 * (j.val / 1024) + j.val % 1024 / 32, by omega⟩
  br : ∀ (j : Fin 4096), P.br (ix2 0 j) = Q.bv ⟨32 * (j.val / 1024) + j.val % 1024 / 32, by omega⟩
  Wo : ∀ k j, P.Wo (ix2 k j) = Q.Wo k j
  bo : ∀ k, P.bo (ix2 0 k) = Q.bo k
  g2 : ∀ k, P.g2 (ix2 0 k) = Q.g2 k
  b2 : ∀ k, P.b2 (ix2 0 k) = Q.b2 k
  W1 : ∀ k j, P.W1 (ix2 k j) = Q.W1 k j
  c1 : ∀ k, P.c1 (ix2 0 k) = Q.c1 k
  W2 : ∀ k j, P.W2 (ix2 k j) = Q.W2 k j
  c2 : ∀ k, P.c2 (ix2 0 k) = Q.c2 k

theorem vAttnHalf_apply (H : Ops A AT M D ids) {P : VP} {Q : Params} (hP : Holds P Q) (h : FVec Ideal S2048x128 .f32)
    (n : Fin 2048) (d : Fin 128) :
    vAttnHalf A AT M D P h (ix2 n d) = attnHalf Q ids (fun n d => h (ix2 n d)) n d := by
  unfold vAttnHalf attnHalf
  rw [vAttn_apply, hP.bo]
  refine congrArg (fun s => h (ix2 n d) + s + Q.bo d) (Finset.sum_congr rfl fun j _ => ?_)
  rw [hP.Wo, heads_attn H _ _ _ (fun t i => lin (ln (fun k => h (ix2 t k)) Q.g1 Q.b1) Q.Wv Q.bv i)]
  · simp only [vPhi_apply, vLin_apply, vLn_apply, hP.g1, hP.b1, hP.Wq, hP.bq, hP.Wk, hP.bk]
  · intro t j
    simp only [vRep_apply, vLn_apply, hP.g1, hP.b1, hP.Wr, hP.br]
    rfl

theorem vLayer_apply (H : Ops A AT M D ids) {P : VP} {Q : Params} (hP : Holds P Q) (h : FVec Ideal S2048x128 .f32)
    (n : Fin 2048) (d : Fin 128) :
    vLayer A AT M D P h (ix2 n d) = layer Q ids (fun n d => h (ix2 n d)) n d := by
  unfold vLayer layer ffHalf
  rw [vFf_apply, hP.c2]
  simp only [vAttnHalf_apply H hP, hP.g2, hP.b2, hP.W1, hP.c1, hP.W2]

end

end Cert.KVec

end
-- ==== Proof.KBody.lean ====
/- What the kernel body leaves in its two output blocks: the second layer of the first layer of the input projection,
   and its patch means. -/
module

public import proofs.«01_k».proof.Proof.KLayer
public import proofs.«01_k».proof.Proof.IdealFrame

@[expose] public section

set_option maxRecDepth 16384

noncomputable section

namespace Cert.KVec

open Idealize.ShloMosaic Cert.KernelIdeal Cert.KernelIdeal.Facts Cert.KernelIdeal.Gen Cert.Spec

section

variable (x5 : Vec Ideal S2x1x128 .f32) (x6 : Vec Ideal S2x1x128 .f32) (x7 : Vec Ideal S2x128x128 .f32)
  (x8 : Vec Ideal S2x1x128 .f32) (x9 : Vec Ideal S2x128x128 .f32) (x10 : Vec Ideal S2x1x128 .f32)
  (x11 : Vec Ideal S2x128x4096 .f32) (x12 : Vec Ideal S2x1x4096 .f32) (x13 : Vec Ideal S2x128x128 .f32)
  (x14 : Vec Ideal S2x1x128 .f32) (x15 : Vec Ideal S2x1x128 .f32) (x16 : Vec Ideal S2x1x128 .f32)
  (x17 : Vec Ideal S2x128x512 .f32) (x18 : Vec Ideal S2x1x512 .f32) (x19 : Vec Ideal S2x512x128 .f32)
  (x20 : Vec Ideal S2x1x128 .f32)

/-- Layer 0's operands, from the stacked blocks. -/
def par0 : VP where
  g1 := shapeCast S1x128 (View.ld x5 r0_7) shapeCasts_S1x1x128_S1x128
  b1 := shapeCast S1x128 (View.ld x6 r0_7) shapeCasts_S1x1x128_S1x128
  Wq := shapeCast S128x128 (View.ld x7 r0_8) shapeCasts_S1x128x128_S128x128
  bq := shapeCast S1x128 (View.ld x8 r0_7) shapeCasts_S1x1x128_S1x128
  Wk := shapeCast S128x128 (View.ld x9 r0_8) shapeCasts_S1x128x128_S128x128
  bk := shapeCast S1x128 (View.ld x10 r0_7) shapeCasts_S1x1x128_S1x128
  Wr := shapeCast S128x4096 (View.ld x11 r0_9) shapeCasts_S1x128x4096_S128x4096
  br := shapeCast S1x4096 (View.ld x12 r0_10) shapeCasts_S1x1x4096_S1x4096
  Wo := shapeCast S128x128 (View.ld x13 r0_8) shapeCasts_S1x128x128_S128x128
  bo := shapeCast S1x128 (View.ld x14 r0_7) shapeCasts_S1x1x128_S1x128
  g2 := shapeCast S1x128 (View.ld x15 r0_7) shapeCasts_S1x1x128_S1x128
  b2 := shapeCast S1x128 (View.ld x16 r0_7) shapeCasts_S1x1x128_S1x128
  W1 := shapeCast S128x512 (View.ld x17 r0_11) shapeCasts_S1x128x512_S128x512
  c1 := shapeCast S1x512 (View.ld x18 r0_12) shapeCasts_S1x1x512_S1x512
  W2 := shapeCast S512x128 (View.ld x19 r0_13) shapeCasts_S1x512x128_S512x128
  c2 := shapeCast S1x128 (View.ld x20 r0_7) shapeCasts_S1x1x128_S1x128

/-- Layer 1's operands, from the stacked blocks. -/
def par1 : VP where
  g1 := shapeCast S1x128 (View.ld x5 r0_14) shapeCasts_S1x1x128_S1x128
  b1 := shapeCast S1x128 (View.ld x6 r0_14) shapeCasts_S1x1x128_S1x128
  Wq := shapeCast S128x128 (View.ld x7 r0_15) shapeCasts_S1x128x128_S128x128
  bq := shapeCast S1x128 (View.ld x8 r0_14) shapeCasts_S1x1x128_S1x128
  Wk := shapeCast S128x128 (View.ld x9 r0_15) shapeCasts_S1x128x128_S128x128
  bk := shapeCast S1x128 (View.ld x10 r0_14) shapeCasts_S1x1x128_S1x128
  Wr := shapeCast S128x4096 (View.ld x11 r0_16) shapeCasts_S1x128x4096_S128x4096
  br := shapeCast S1x4096 (View.ld x12 r0_17) shapeCasts_S1x1x4096_S1x4096
  Wo := shapeCast S128x128 (View.ld x13 r0_15) shapeCasts_S1x128x128_S128x128
  bo := shapeCast S1x128 (View.ld x14 r0_14) shapeCasts_S1x1x128_S1x128
  g2 := shapeCast S1x128 (View.ld x15 r0_14) shapeCasts_S1x1x128_S1x128
  b2 := shapeCast S1x128 (View.ld x16 r0_14) shapeCasts_S1x1x128_S1x128
  W1 := shapeCast S128x512 (View.ld x17 r0_18) shapeCasts_S1x128x512_S128x512
  c1 := shapeCast S1x512 (View.ld x18 r0_19) shapeCasts_S1x1x512_S1x512
  W2 := shapeCast S512x128 (View.ld x19 r0_20) shapeCasts_S1x512x128_S512x128
  c2 := shapeCast S1x128 (View.ld x20 r0_14) shapeCasts_S1x1x128_S1x128

end

variable (x0 : Vec Ideal S1x2048x128 .f32) (x1 : Vec Ideal S1x2048x1 .i32) (x2 : Vec Ideal S1x1x2048 .i32)
  (x3 : Vec Ideal S128x128 .f32) (x4 : Vec Ideal S1x128 .f32) (x5 : Vec Ideal S2x1x128 .f32)
  (x6 : Vec Ideal S2x1x128 .f32) (x7 : Vec Ideal S2x128x128 .f32) (x8 : Vec Ideal S2x1x128 .f32)
  (x9 : Vec Ideal S2x128x128 .f32) (x10 : Vec Ideal S2x1x128 .f32) (x11 : Vec Ideal S2x128x4096 .f32)
  (x12 : Vec Ideal S2x1x4096 .f32) (x13 : Vec Ideal S2x128x128 .f32) (x14 : Vec Ideal S2x1x128 .f32)
  (x15 : Vec Ideal S2x1x128 .f32) (x16 : Vec Ideal S2x1x128 .f32) (x17 : Vec Ideal S2x128x512 .f32)
  (x18 : Vec Ideal S2x1x512 .f32) (x19 : Vec Ideal S2x512x128 .f32) (x20 : Vec Ideal S2x1x128 .f32)
  (x21 : Vec Ideal S1024x32 .f32) (x22 : Vec Ideal S128x4 .f32)

/-- The first layer's output, as the body computes it. -/
theorem layer0_eq :
    k0_pay25 (k0_pay52 x0 x1 x2 x3 x4 x5 x6 x7 x8 x9 x10 x11 x12 x13 x14 x15 x16 x17 x18 x19 x20 x21 x22)
        (k0_pay53 x0 x1 x2 x3 x4 x5 x6 x7 x8 x9 x10 x11 x12 x13 x14 x15 x16 x17 x18 x19 x20 x21 x22)
      = vLayer (k0_pay41 x0 x1 x2 x3 x4 x5 x6 x7 x8 x9 x10 x11 x12 x13 x14 x15 x16 x17 x18 x19 x20 x21 x22)
          (k0_pay42 x0 x1 x2 x3 x4 x5 x6 x7 x8 x9 x10 x11 x12 x13 x14 x15 x16 x17 x18 x19 x20 x21 x22)
          (k0_pay43 x0 x1 x2 x3 x4 x5 x6 x7 x8 x9 x10 x11 x12 x13 x14 x15 x16 x17 x18 x19 x20 x21 x22)
          (k0_pay44 x0 x1 x2 x3 x4 x5 x6 x7 x8 x9 x10 x11 x12 x13 x14 x15 x16 x17 x18 x19 x20 x21 x22)
          (par0 x5 x6 x7 x8 x9 x10 x11 x12 x13 x14 x15 x16 x17 x18 x19 x20)
          (k0_pay40 x0 x1 x2 x3 x4 x5 x6 x7 x8 x9 x10 x11 x12 x13 x14 x15 x16 x17 x18 x19 x20 x21 x22) := rfl

/-- The second layer's output, as the body computes it. -/
theorem layer1_eq :
    k0_pay1 (k0_pay58 x0 x1 x2 x3 x4 x5 x6 x7 x8 x9 x10 x11 x12 x13 x14 x15 x16 x17 x18 x19 x20 x21 x22)
        (k0_pay59 x0 x1 x2 x3 x4 x5 x6 x7 x8 x9 x10 x11 x12 x13 x14 x15 x16 x17 x18 x19 x20 x21 x22)
        (Scalar.ofBits .f32 0x00000000#32) (View.ld x19 r0_20) (View.ld x20 r0_14)
      = vLayer (k0_pay41 x0 x1 x2 x3 x4 x5 x6 x7 x8 x9 x10 x11 x12 x13 x14 x15 x16 x17 x18 x19 x20 x21 x22)
          (k0_pay42 x0 x1 x2 x3 x4 x5 x6 x7 x8 x9 x10 x11 x12 x13 x14 x15 x16 x17 x18 x19 x20 x21 x22)
          (k0_pay43 x0 x1 x2 x3 x4 x5 x6 x7 x8 x9 x10 x11 x12 x13 x14 x15 x16 x17 x18 x19 x20 x21 x22)
          (k0_pay44 x0 x1 x2 x3 x4 x5 x6 x7 x8 x9 x10 x11 x12 x13 x14 x15 x16 x17 x18 x19 x20 x21 x22)
          (par1 x5 x6 x7 x8 x9 x10 x11 x12 x13 x14 x15 x16 x17 x18 x19 x20)
          (k0_pay25 (k0_pay52 x0 x1 x2 x3 x4 x5 x6 x7 x8 x9 x10 x11 x12 x13 x14 x15 x16 x17 x18 x19 x20 x21 x22)
            (k0_pay53 x0 x1 x2 x3 x4 x5 x6 x7 x8 x9 x10 x11 x12 x13 x14 x15 x16 x17 x18 x19 x20 x21 x22)) := rfl

end Cert.KVec

end
-- ==== Proof.KOut.lean ====
/- The kernel body's two output blocks, read at an index, from what its input blocks hold. -/
module

public import proofs.«01_k».proof.Proof.KBody
public import Idealize.ShloMosaic.Lib.Pipeline.ValueKit

@[expose] public section

set_option maxRecDepth 16384

noncomputable section

namespace Cert.KVec

open Idealize.ShloMosaic Cert.KernelIdeal Cert.KernelIdeal.Facts Cert.KernelIdeal.Gen Cert.Spec

variable (x0 : Vec Ideal S1x2048x128 .f32) (x1 : Vec Ideal S1x2048x1 .i32) (x2 : Vec Ideal S1x1x2048 .i32)
  (x3 : Vec Ideal S128x128 .f32) (x4 : Vec Ideal S1x128 .f32) (x5 : Vec Ideal S2x1x128 .f32)
  (x6 : Vec Ideal S2x1x128 .f32) (x7 : Vec Ideal S2x128x128 .f32) (x8 : Vec Ideal S2x1x128 .f32)
  (x9 : Vec Ideal S2x128x128 .f32) (x10 : Vec Ideal S2x1x128 .f32) (x11 : Vec Ideal S2x128x4096 .f32)
  (x12 : Vec Ideal S2x1x4096 .f32) (x13 : Vec Ideal S2x128x128 .f32) (x14 : Vec Ideal S2x1x128 .f32)
  (x15 : Vec Ideal S2x1x128 .f32) (x16 : Vec Ideal S2x1x128 .f32) (x17 : Vec Ideal S2x128x512 .f32)
  (x18 : Vec Ideal S2x1x512 .f32) (x19 : Vec Ideal S2x512x128 .f32) (x20 : Vec Ideal S2x1x128 .f32)
  (x21 : Vec Ideal S1024x32 .f32) (x22 : Vec Ideal S128x4 .f32)

/-- What the input blocks hold at one grid point: the sample's rows `x` and patch indices `ids`, the input projection,
    both layers' parameters `Q l` (the value projection repeated along its head's features), and the block-sum
    matrices. -/
structure Blocks (ids : Fin 2048 → BitVec 32) (x : Fin 2048 → Fin 128 → EReal) (Win : Fin 128 → Fin 128 → EReal)
    (bin : Fin 128 → EReal) (Q : Fin 2 → Params) : Prop where
  inRange : ∀ n, ∃ p : Fin 128, ids n = BitVec.ofNat 32 p.val
  hx : ∀ n k, x0 (ix3 0 n k) = x n k
  hcol : ∀ n, x1 (ix3 0 n 0) = ids n
  hrow : ∀ n, x2 (ix3 0 0 n) = ids n
  hWin : ∀ k j, x3 (ix2 k j) = Win k j
  hbin : ∀ j, x4 (ix2 0 j) = bin j
  hg1 : ∀ l k, x5 (ix3 l 0 k) = (Q l).g1 k
  hb1 : ∀ l k, x6 (ix3 l 0 k) = (Q l).b1 k
  hWq : ∀ l k j, x7 (ix3 l k j) = (Q l).Wq k j
  hbq : ∀ l k, x8 (ix3 l 0 k) = (Q l).bq k
  hWk : ∀ l k j, x9 (ix3 l k j) = (Q l).Wk k j
  hbk : ∀ l k, x10 (ix3 l 0 k) = (Q l).bk k
  hWr : ∀ l k (j : Fin 4096), x11 (ix3 l k j) = (Q l).Wv k ⟨32 * (j.val / 1024) + j.val % 1024 / 32, by omega⟩
  hbr : ∀ l (j : Fin 4096), x12 (ix3 l 0 j) = (Q l).bv ⟨32 * (j.val / 1024) + j.val % 1024 / 32, by omega⟩
  hWo : ∀ l k j, x13 (ix3 l k j) = (Q l).Wo k j
  hbo : ∀ l k, x14 (ix3 l 0 k) = (Q l).bo k
  hg2 : ∀ l k, x15 (ix3 l 0 k) = (Q l).g2 k
  hb2 : ∀ l k, x16 (ix3 l 0 k) = (Q l).b2 k
  hW1 : ∀ l k j, x17 (ix3 l k j) = (Q l).W1 k j
  hc1 : ∀ l k, x18 (ix3 l 0 k) = (Q l).c1 k
  hW2 : ∀ l k j, x19 (ix3 l k j) = (Q l).W2 k j
  hc2 : ∀ l k, x20 (ix3 l 0 k) = (Q l).c2 k
  hM : ∀ j e, x21 (ix2 j e) = if j.val / 32 = e.val then 1 else 0
  hD : ∀ k hd, x22 (ix2 k hd) = if k.val / 32 = hd.val then 1 else 0

variable {x0 x1 x2 x3 x4 x5 x6 x7 x8 x9 x10 x11 x12 x13 x14 x15 x16 x17 x18 x19 x20 x21 x22}
variable {ids : Fin 2048 → BitVec 32} {x : Fin 2048 → Fin 128 → EReal} {Win : Fin 128 → Fin 128 → EReal}
  {bin : Fin 128 → EReal} {Q : Fin 2 → Params}

theorem holds0 (B : Blocks x0 x1 x2 x3 x4 x5 x6 x7 x8 x9 x10 x11 x12 x13 x14 x15 x16 x17 x18 x19 x20 x21 x22 ids x Win bin Q) :
    Holds (par0 x5 x6 x7 x8 x9 x10 x11 x12 x13 x14 x15 x16 x17 x18 x19 x20) (Q 0) := by
  constructor
  · intro j; refine Eq.trans ?_ (B.hg1 0 j); unfold par0; pointwise
  · intro j; refine Eq.trans ?_ (B.hb1 0 j); unfold par0; pointwise
  · intro k j; refine Eq.trans ?_ (B.hWq 0 k j); unfold par0; pointwise
  · intro j; refine Eq.trans ?_ (B.hbq 0 j); unfold par0; pointwise
  · intro k j; refine Eq.trans ?_ (B.hWk 0 k j); unfold par0; pointwise
  · intro j; refine Eq.trans ?_ (B.hbk 0 j); unfold par0; pointwise
  · intro k j; refine Eq.trans ?_ (B.hWr 0 k j); unfold par0; pointwise
  · intro j; refine Eq.trans ?_ (B.hbr 0 j); unfold par0; pointwise
  · intro k j; refine Eq.trans ?_ (B.hWo 0 k j); unfold par0; pointwise
  · intro j; refine Eq.trans ?_ (B.hbo 0 j); unfold par0; pointwise
  · intro j; refine Eq.trans ?_ (B.hg2 0 j); unfold par0; pointwise
  · intro j; refine Eq.trans ?_ (B.hb2 0 j); unfold par0; pointwise
  · intro k j; refine Eq.trans ?_ (B.hW1 0 k j); unfold par0; pointwise
  · intro j; refine Eq.trans ?_ (B.hc1 0 j); unfold par0; pointwise
  · intro k j; refine Eq.trans ?_ (B.hW2 0 k j); unfold par0; pointwise
  · intro j; refine Eq.trans ?_ (B.hc2 0 j); unfold par0; pointwise

theorem holds1 (B : Blocks x0 x1 x2 x3 x4 x5 x6 x7 x8 x9 x10 x11 x12 x13 x14 x15 x16 x17 x18 x19 x20 x21 x22 ids x Win bin Q) :
    Holds (par1 x5 x6 x7 x8 x9 x10 x11 x12 x13 x14 x15 x16 x17 x18 x19 x20) (Q 1) := by
  constructor
  · intro j; refine Eq.trans ?_ (B.hg1 1 j); unfold par1; pointwise
  · intro j; refine Eq.trans ?_ (B.hb1 1 j); unfold par1; pointwise
  · intro k j; refine Eq.trans ?_ (B.hWq 1 k j); unfold par1; pointwise
  · intro j; refine Eq.trans ?_ (B.hbq 1 j); unfold par1; pointwise
  · intro k j; refine Eq.trans ?_ (B.hWk 1 k j); unfold par1; pointwise
  · intro j; refine Eq.trans ?_ (B.hbk 1 j); unfold par1; pointwise
  · intro k j; refine Eq.trans ?_ (B.hWr 1 k j); unfold par1; pointwise
  · intro j; refine Eq.trans ?_ (B.hbr 1 j); unfold par1; pointwise
  · intro k j; refine Eq.trans ?_ (B.hWo 1 k j); unfold par1; pointwise
  · intro j; refine Eq.trans ?_ (B.hbo 1 j); unfold par1; pointwise
  · intro j; refine Eq.trans ?_ (B.hg2 1 j); unfold par1; pointwise
  · intro j; refine Eq.trans ?_ (B.hb2 1 j); unfold par1; pointwise
  · intro k j; refine Eq.trans ?_ (B.hW1 1 k j); unfold par1; pointwise
  · intro j; refine Eq.trans ?_ (B.hc1 1 j); unfold par1; pointwise
  · intro k j; refine Eq.trans ?_ (B.hW2 1 k j); unfold par1; pointwise
  · intro j; refine Eq.trans ?_ (B.hc2 1 j); unfold par1; pointwise

theorem ops (B : Blocks x0 x1 x2 x3 x4 x5 x6 x7 x8 x9 x10 x11 x12 x13 x14 x15 x16 x17 x18 x19 x20 x21 x22 ids x Win bin Q) :
    Ops (k0_pay41 x0 x1 x2 x3 x4 x5 x6 x7 x8 x9 x10 x11 x12 x13 x14 x15 x16 x17 x18 x19 x20 x21 x22)
      (k0_pay42 x0 x1 x2 x3 x4 x5 x6 x7 x8 x9 x10 x11 x12 x13 x14 x15 x16 x17 x18 x19 x20 x21 x22)
      (k0_pay43 x0 x1 x2 x3 x4 x5 x6 x7 x8 x9 x10 x11 x12 x13 x14 x15 x16 x17 x18 x19 x20 x21 x22)
      (k0_pay44 x0 x1 x2 x3 x4 x5 x6 x7 x8 x9 x10 x11 x12 x13 x14 x15 x16 x17 x18 x19 x20 x21 x22) ids := by
  refine ⟨B.inRange, fun n p => ?_, fun p n => ?_, fun j e => ?_, fun k hd => ?_⟩
  · rw [← B.hcol]; refine (oneHot_apply _ n p).trans ?_; pointwise
  · rw [← B.hrow]; refine (oneHotT_apply _ p n).trans ?_; pointwise
  · rw [← B.hM]; unfold k0_pay43; pointwise [k0_pay7]
  · rw [← B.hD]; unfold k0_pay44; pointwise [k0_pay8]

/-- The input projection. -/
theorem proj_apply (B : Blocks x0 x1 x2 x3 x4 x5 x6 x7 x8 x9 x10 x11 x12 x13 x14 x15 x16 x17 x18 x19 x20 x21 x22 ids x Win bin Q) (n : Fin 2048) (d : Fin 128) :
    k0_pay40 x0 x1 x2 x3 x4 x5 x6 x7 x8 x9 x10 x11 x12 x13 x14 x15 x16 x17 x18 x19 x20 x21 x22 (ix2 n d)
      = lin (x n) Win bin d := by
  unfold k0_pay40 lin
  simp only [← B.hx, ← B.hWin, ← B.hbin]
  pointwise [k0_pay4]

/-- The encoder's rows, as the body computes them. -/
theorem rows_apply (B : Blocks x0 x1 x2 x3 x4 x5 x6 x7 x8 x9 x10 x11 x12 x13 x14 x15 x16 x17 x18 x19 x20 x21 x22 ids x Win bin Q) (n : Fin 2048) (d : Fin 128) :
    k0_pay1 (k0_pay58 x0 x1 x2 x3 x4 x5 x6 x7 x8 x9 x10 x11 x12 x13 x14 x15 x16 x17 x18 x19 x20 x21 x22)
        (k0_pay59 x0 x1 x2 x3 x4 x5 x6 x7 x8 x9 x10 x11 x12 x13 x14 x15 x16 x17 x18 x19 x20 x21 x22)
        (Scalar.ofBits .f32 0x00000000#32) (View.ld x19 r0_20) (View.ld x20 r0_14) (ix2 n d)
      = encode (Q 0) (Q 1) Win bin ids x n d := by
  rw [layer1_eq, layer0_eq, vLayer_apply (ops B) (holds1 B)]
  simp only [vLayer_apply (ops B) (holds0 B), proj_apply B]
  rfl

/-- The first output block. -/
theorem out23_apply (B : Blocks x0 x1 x2 x3 x4 x5 x6 x7 x8 x9 x10 x11 x12 x13 x14 x15 x16 x17 x18 x19 x20 x21 x22 ids x Win bin Q) (n : Fin 2048) (d : Fin 128) :
    out0_23 x0 x1 x2 x3 x4 x5 x6 x7 x8 x9 x10 x11 x12 x13 x14 x15 x16 x17 x18 x19 x20 x21 x22 (ix3 0 n d)
      = encode (Q 0) (Q 1) Win bin ids x n d := by
  rw [← rows_apply B]
  frame_out
  pointwise [k0_pay2]

/-- The second output block. -/
theorem out24_apply (B : Blocks x0 x1 x2 x3 x4 x5 x6 x7 x8 x9 x10 x11 x12 x13 x14 x15 x16 x17 x18 x19 x20 x21 x22 ids x Win bin Q) (p d : Fin 128) :
    out0_24 x0 x1 x2 x3 x4 x5 x6 x7 x8 x9 x10 x11 x12 x13 x14 x15 x16 x17 x18 x19 x20 x21 x22 (ix3 0 p d)
      = summary ids (encode (Q 0) (Q 1) Win bin ids x) p d := by
  frame_out
  unfold summary
  simp only [← rows_apply B]
  pointwise [k0_pay3]
  simp only [(ops B).at']
  exact congrArg (Ideal.div · _) (Finset.sum_congr rfl fun t _ => by split_ifs <;> simp only [one_mul, zero_mul])

end Cert.KVec

end
-- ==== Proof.KHost.lean ====
/- What the region finds in the arrays that the program computes before it: the patch indices and the parameter rows
   reshaped, the two block-sum matrices, and the value projections repeated along their head's features. -/
module

public import proofs.«01_k».proof.Proof.IdealFrame
public import proofs.«01_k».proof.Proof.KLayer
public import Idealize.ShloMosaic.Lib.Claim
public import Idealize.ShloMosaic.Lib.StableHlo.RunRead

@[expose] public section

set_option maxRecDepth 16384

noncomputable section

namespace Cert.KHost

open Idealize.ShloMosaic Idealize.ShloMosaic.TcCoe Cert.KernelIdeal Cert.KernelIdeal.Facts Cert.KernelIdeal.Gen Cert.Spec

/-- The identity matrix of size 32. -/
def eye32 : FVec Ideal S32x32 .f32 :=
  uitofp .f32 (cmpi .eq (addi (iotaInDim S32x32 32 0) (broadcastInDim S32x32 ![] bcast_S_S32x32 (constantI S_ 32 0#32)))
    (iotaInDim S32x32 32 1))

/-- The identity matrix of size 4. -/
def eye4 : FVec Ideal S4x4 .f32 :=
  uitofp .f32 (cmpi .eq (addi (iotaInDim S4x4 32 0) (broadcastInDim S4x4 ![] bcast_S_S4x4 (constantI S_ 32 0#32)))
    (iotaInDim S4x4 32 1))

/-- Each of 32 columns repeated 32 times: the Kronecker product of the identity and a row of ones. -/
def rep : FVec Ideal S32x1024 .f32 :=
  shapeCast S32x1024 (mulf
    (broadcastInDim S32x1x32x32 ![0, 1, 2, 3] bcast_S32x1x32x1_S32x1x32x32_0_1_2_3
      (broadcastInDim S32x1x32x1 ![0, 2] bcast_S32x32_S32x1x32x1_0_2 eye32))
    (broadcastInDim S32x1x32x32 ![0, 1, 2, 3] bcast_S1x1x1x32_S32x1x32x32_0_1_2_3
      (broadcastInDim S1x1x1x32 ![1, 3] bcast_S1x32_S1x1x1x32_1_3
        (broadcastInDim S1x32 ![] bcast_S_S1x32 (constant S_ .f32 0x3F800000#32))))) shapeCasts_S32x1x32x32_S32x1024

/-- `rep` in each of four diagonal blocks. -/
def rep4 : FVec Ideal S128x4096 .f32 :=
  shapeCast S128x4096 (mulf
    (broadcastInDim S4x32x4x1024 ![0, 1, 2, 3] bcast_S4x1x4x1_S4x32x4x1024_0_1_2_3
      (broadcastInDim S4x1x4x1 ![0, 2] bcast_S4x4_S4x1x4x1_0_2 eye4))
    (broadcastInDim S4x32x4x1024 ![0, 1, 2, 3] bcast_S1x32x1x1024_S4x32x4x1024_0_1_2_3
      (broadcastInDim S1x32x1x1024 ![1, 3] bcast_S32x1024_S1x32x1x1024_1_3 rep))) shapeCasts_S4x32x4x1024_S128x4096

/-- A column of 32 ones in each of four diagonal blocks. -/
def sum4 : FVec Ideal S128x4 .f32 :=
  shapeCast S128x4 (mulf
    (broadcastInDim S4x32x4x1 ![0, 1, 2, 3] bcast_S4x1x4x1_S4x32x4x1_0_1_2_3
      (broadcastInDim S4x1x4x1 ![0, 2] bcast_S4x4_S4x1x4x1_0_2 eye4))
    (broadcastInDim S4x32x4x1 ![0, 1, 2, 3] bcast_S1x32x1x1_S4x32x4x1_0_1_2_3
      (broadcastInDim S1x32x1x1 ![1, 3] bcast_S32x1_S1x32x1x1_1_3
        (broadcastInDim S32x1 ![] bcast_S_S32x1 (constant S_ .f32 0x3F800000#32))))) shapeCasts_S4x32x4x1_S128x4

/-- A bit read as a float is its indicator. -/
theorem bit_eq (n : ℕ) (hn : n < 2 ^ 32) (i j : Fin n) :
    FloatOps.uitofp (F := Ideal) .f32
        (IntOp.cmpi .eq (IntOp.addi (BitVec.ofNat 32 i.val) 0#32) (BitVec.ofNat 32 j.val))
      = if i.val = j.val then 1 else 0 := by
  have h : (BitVec.ofNat 32 i.val + 0#32 = BitVec.ofNat 32 j.val) ↔ i.val = j.val := by
    rw [BitVec.add_zero]
    constructor
    · intro h
      have := congrArg BitVec.toNat h
      simp only [BitVec.toNat_ofNat] at this
      rwa [Nat.mod_eq_of_lt (by omega), Nat.mod_eq_of_lt (by omega)] at this
    · intro h
      rw [h]
  show (((BitVec.ofBool (BitVec.ofNat 32 i.val + 0#32 == BitVec.ofNat 32 j.val)).toNat : ℝ) : EReal) = _
  by_cases e : i.val = j.val
  · rw [if_pos e, beq_iff_eq.mpr (h.mpr e)]
    show (((1 : ℕ) : ℝ) : EReal) = 1
    rw [Nat.cast_one, EReal.coe_one]
  · rw [if_neg e, beq_eq_false_iff_ne.mpr fun hb => e (h.mp hb)]
    norm_num

theorem eye32_apply (i j : Fin 32) : eye32 (ix2 i j) = if i.val = j.val then 1 else 0 := by
  unfold eye32
  pointwise
  exact bit_eq 32 (by omega) i j

theorem eye4_apply (i j : Fin 4) : eye4 (ix2 i j) = if i.val = j.val then 1 else 0 := by
  unfold eye4
  pointwise
  exact bit_eq 4 (by omega) i j

theorem rep_apply (e : Fin 32) (j : Fin 1024) : rep (ix2 e j) = if j.val / 32 = e.val then 1 else 0 := by
  unfold rep
  pointwise
  rw [eye32_apply]
  simp only [eq_comm]

theorem rep4_apply (k : Fin 128) (j : Fin 4096) :
    rep4 (ix2 k j) = if k.val = 32 * (j.val / 1024) + j.val % 1024 / 32 then 1 else 0 := by
  unfold rep4
  pointwise
  simp only [eye4_apply, rep_apply]
  by_cases h : k.val = 32 * (j.val / 1024) + j.val % 1024 / 32
  · rw [if_pos h, if_pos (by omega), if_pos (by omega), one_mul]
  · rw [if_neg h]
    by_cases h' : k.val / 32 = j.val / 1024
    · rw [if_neg (c := j.val % 1024 / 32 = k.val % 32) (by omega), mul_zero]
    · rw [if_neg h', zero_mul]

theorem sum4_apply (k : Fin 128) (hd : Fin 4) : sum4 (ix2 k hd) = if k.val / 32 = hd.val then 1 else 0 := by
  unfold sum4
  pointwise
  simp only [eye4_apply]

variable (m : (ℓ : Loc nD τ sig) → Buf (Elt Ideal) ℓ)

set_option maxHeartbeats 8000000 in
/-- Each array that the program computes before the region, by its operations. -/
theorem reads (c : Dev nD) :
    V m c main_v10 = transpose S1024x32 [1, 0] rep transposes_S32x1024_S1024x32_1_0
    ∧ V m c main_v28 = sum4
    ∧ V m c main_v18 = Host.dotGeneral (F := Ideal) (φ₁ := .f32) dot_S2x128x128_S128x4096_S2x128x4096_2_0_01_1_n_n none
        (m ((c : Thread nD τ).loc main_arg10) : FVec Ideal S2x128x128 .f32) rep4
    ∧ V m c main_v20 = shapeCast S2x1x4096 (Host.dotGeneral (F := Ideal) (φ₁ := .f32) dot_S2x128_S128x4096_S2x4096_1_0_0_1_n_n none
        (m ((c : Thread nD τ).loc main_arg11) : FVec Ideal S2x128 .f32) rep4) shapeCasts_S2x4096_S2x1x4096
    ∧ V m c main_v0 = shapeCast S4x2048x1 (m ((c : Thread nD τ).loc main_arg1) : Vec Ideal S4x2048 .i32) shapeCasts_S4x2048_S4x2048x1
    ∧ V m c main_v1 = shapeCast S4x1x2048 (m ((c : Thread nD τ).loc main_arg1) : Vec Ideal S4x2048 .i32) shapeCasts_S4x2048_S4x1x2048
    ∧ V m c main_v29 = shapeCast S1x128 (m ((c : Thread nD τ).loc main_arg3) : Vec Ideal S128 .f32) shapeCasts_S128_S1x128
    ∧ V m c main_v30 = shapeCast S2x1x128 (m ((c : Thread nD τ).loc main_arg4) : Vec Ideal S2x128 .f32) shapeCasts_S2x128_S2x1x128
    ∧ V m c main_v31 = shapeCast S2x1x128 (m ((c : Thread nD τ).loc main_arg5) : Vec Ideal S2x128 .f32) shapeCasts_S2x128_S2x1x128
    ∧ V m c main_v32 = shapeCast S2x1x128 (m ((c : Thread nD τ).loc main_arg7) : Vec Ideal S2x128 .f32) shapeCasts_S2x128_S2x1x128
    ∧ V m c main_v33 = shapeCast S2x1x128 (m ((c : Thread nD τ).loc main_arg9) : Vec Ideal S2x128 .f32) shapeCasts_S2x128_S2x1x128
    ∧ V m c main_v34 = shapeCast S2x1x128 (m ((c : Thread nD τ).loc main_arg13) : Vec Ideal S2x128 .f32) shapeCasts_S2x128_S2x1x128
    ∧ V m c main_v35 = shapeCast S2x1x128 (m ((c : Thread nD τ).loc main_arg14) : Vec Ideal S2x128 .f32) shapeCasts_S2x128_S2x1x128
    ∧ V m c main_v36 = shapeCast S2x1x128 (m ((c : Thread nD τ).loc main_arg15) : Vec Ideal S2x128 .f32) shapeCasts_S2x128_S2x1x128
    ∧ V m c main_v38 = shapeCast S2x1x128 (m ((c : Thread nD τ).loc main_arg19) : Vec Ideal S2x128 .f32) shapeCasts_S2x128_S2x1x128
    ∧ V m c main_v37 = shapeCast S2x1x512 (m ((c : Thread nD τ).loc main_arg17) : Vec Ideal S2x512 .f32) shapeCasts_S2x512_S2x1x512 := by
  simp only [V, hostOps0, hostOps0_1, hostOps0_2, hostOps0_3, hostOps0_4, hostOps0_5, hostOps0_6, List.flatten_cons,
    List.flatten_nil, List.append_nil, List.cons_append, List.nil_append]
  refine ⟨?_, ?_, ?_, ?_, ?_, ?_, ?_, ?_, ?_, ?_, ?_, ?_, ?_, ?_, ?_, ?_⟩
  all_goals
    after_reads_simp
    try rfl

theorem M_apply (c : Dev nD) (j : Fin 1024) (e : Fin 32) :
    V m c main_v10 (ix2 j e) = if j.val / 32 = e.val then (1 : EReal) else 0 := by
  rw [(reads m c).1]
  pointwise
  exact rep_apply e j

theorem D_apply (c : Dev nD) (k : Fin 128) (hd : Fin 4) :
    V m c main_v28 (ix2 k hd) = if k.val / 32 = hd.val then (1 : EReal) else 0 := by
  rw [(reads m c).2.1]
  exact sum4_apply k hd

/-- A sum against a column of `rep4` keeps one term. -/
theorem sum_rep4 (f : Fin 128 → EReal) (j : Fin 4096) :
    (∑ x, f x * rep4 (ix2 x j)) = f ⟨32 * (j.val / 1024) + j.val % 1024 / 32, by omega⟩ := by
  rw [Finset.sum_eq_single (⟨32 * (j.val / 1024) + j.val % 1024 / 32, by omega⟩ : Fin 128)]
  · rw [rep4_apply, if_pos rfl, mul_one]
  · intro x _ hx
    rw [rep4_apply, if_neg, mul_zero]
    intro h
    exact hx (Fin.ext h)
  · intro h
    exact absurd (Finset.mem_univ _) h

theorem Wr_apply (c : Dev nD) (l : Fin 2) (k : Fin 128) (j : Fin 4096) :
    V m c main_v18 (ix3 l k j)
      = m ((c : Thread nD τ).loc main_arg10) (ix3 l k ⟨32 * (j.val / 1024) + j.val % 1024 / 32, by omega⟩) := by
  rw [(reads m c).2.2.1]
  pointwise
  exact sum_rep4 (fun x => m ((c : Thread nD τ).loc main_arg10) (ix3 l k x)) j

theorem br_apply (c : Dev nD) (l : Fin 2) (j : Fin 4096) :
    V m c main_v20 (ix3 l 0 j)
      = m ((c : Thread nD τ).loc main_arg11) (ix2 l ⟨32 * (j.val / 1024) + j.val % 1024 / 32, by omega⟩) := by
  rw [(reads m c).2.2.2.1]
  pointwise
  exact sum_rep4 (fun x => m ((c : Thread nD τ).loc main_arg11) (ix2 l x)) j

theorem col_apply (c : Dev nD) (s : Fin 4) (n : Fin 2048) :
    V m c main_v0 (ix3 s n 0) = m ((c : Thread nD τ).loc main_arg1) (ix2 s n) := by
  rw [(reads m c).2.2.2.2.1]
  pointwise

theorem row_apply (c : Dev nD) (s : Fin 4) (n : Fin 2048) :
    V m c main_v1 (ix3 s 0 n) = m ((c : Thread nD τ).loc main_arg1) (ix2 s n) := by
  rw [(reads m c).2.2.2.2.2.1]
  pointwise

theorem v29_apply (c : Dev nD) (k : Fin 128) :
    V m c main_v29 (ix2 0 k) = m ((c : Thread nD τ).loc main_arg3) (ix1 k) := by
  rw [(reads m c).2.2.2.2.2.2.1]
  pointwise

theorem v30_apply (c : Dev nD) (l : Fin 2) (k : Fin 128) :
    V m c main_v30 (ix3 l 0 k) = m ((c : Thread nD τ).loc main_arg4) (ix2 l k) := by
  rw [(reads m c).2.2.2.2.2.2.2.1]
  pointwise

theorem v31_apply (c : Dev nD) (l : Fin 2) (k : Fin 128) :
    V m c main_v31 (ix3 l 0 k) = m ((c : Thread nD τ).loc main_arg5) (ix2 l k) := by
  rw [(reads m c).2.2.2.2.2.2.2.2.1]
  pointwise

theorem v32_apply (c : Dev nD) (l : Fin 2) (k : Fin 128) :
    V m c main_v32 (ix3 l 0 k) = m ((c : Thread nD τ).loc main_arg7) (ix2 l k) := by
  rw [(reads m c).2.2.2.2.2.2.2.2.2.1]
  pointwise

theorem v33_apply (c : Dev nD) (l : Fin 2) (k : Fin 128) :
    V m c main_v33 (ix3 l 0 k) = m ((c : Thread nD τ).loc main_arg9) (ix2 l k) := by
  rw [(reads m c).2.2.2.2.2.2.2.2.2.2.1]
  pointwise

theorem v34_apply (c : Dev nD) (l : Fin 2) (k : Fin 128) :
    V m c main_v34 (ix3 l 0 k) = m ((c : Thread nD τ).loc main_arg13) (ix2 l k) := by
  rw [(reads m c).2.2.2.2.2.2.2.2.2.2.2.1]
  pointwise

theorem v35_apply (c : Dev nD) (l : Fin 2) (k : Fin 128) :
    V m c main_v35 (ix3 l 0 k) = m ((c : Thread nD τ).loc main_arg14) (ix2 l k) := by
  rw [(reads m c).2.2.2.2.2.2.2.2.2.2.2.2.1]
  pointwise

theorem v36_apply (c : Dev nD) (l : Fin 2) (k : Fin 128) :
    V m c main_v36 (ix3 l 0 k) = m ((c : Thread nD τ).loc main_arg15) (ix2 l k) := by
  rw [(reads m c).2.2.2.2.2.2.2.2.2.2.2.2.2.1]
  pointwise

theorem v38_apply (c : Dev nD) (l : Fin 2) (k : Fin 128) :
    V m c main_v38 (ix3 l 0 k) = m ((c : Thread nD τ).loc main_arg19) (ix2 l k) := by
  rw [(reads m c).2.2.2.2.2.2.2.2.2.2.2.2.2.2.1]
  pointwise

theorem v37_apply (c : Dev nD) (l : Fin 2) (k : Fin 512) :
    V m c main_v37 (ix3 l 0 k) = m ((c : Thread nD τ).loc main_arg17) (ix2 l k) := by
  rw [(reads m c).2.2.2.2.2.2.2.2.2.2.2.2.2.2.2]
  pointwise

end Cert.KHost

end
-- ==== Proof.Args.lean ====
/- The two results as functions of the twenty arguments. -/
module

public import proofs.«01_k».proof.Proof.Spec
public import Idealize.ShloMosaic.Lib.Pointwise

@[expose] public section

noncomputable section

namespace Cert.Spec

open Idealize.ShloMosaic

/-- The contents of the arguments, in order. -/
structure Args where
  x : FVec Ideal ⟨3, ![4, 2048, 128]⟩ .f32
  ids : Vec Ideal ⟨2, ![4, 2048]⟩ .i32
  Win : FVec Ideal ⟨2, ![128, 128]⟩ .f32
  bin : FVec Ideal ⟨1, ![128]⟩ .f32
  g1 : FVec Ideal ⟨2, ![2, 128]⟩ .f32
  b1 : FVec Ideal ⟨2, ![2, 128]⟩ .f32
  Wq : FVec Ideal ⟨3, ![2, 128, 128]⟩ .f32
  bq : FVec Ideal ⟨2, ![2, 128]⟩ .f32
  Wk : FVec Ideal ⟨3, ![2, 128, 128]⟩ .f32
  bk : FVec Ideal ⟨2, ![2, 128]⟩ .f32
  Wv : FVec Ideal ⟨3, ![2, 128, 128]⟩ .f32
  bv : FVec Ideal ⟨2, ![2, 128]⟩ .f32
  Wo : FVec Ideal ⟨3, ![2, 128, 128]⟩ .f32
  bo : FVec Ideal ⟨2, ![2, 128]⟩ .f32
  g2 : FVec Ideal ⟨2, ![2, 128]⟩ .f32
  b2 : FVec Ideal ⟨2, ![2, 128]⟩ .f32
  W1 : FVec Ideal ⟨3, ![2, 128, 512]⟩ .f32
  c1 : FVec Ideal ⟨2, ![2, 512]⟩ .f32
  W2 : FVec Ideal ⟨3, ![2, 512, 128]⟩ .f32
  c2 : FVec Ideal ⟨2, ![2, 128]⟩ .f32

namespace Args

/-- Layer `l`'s parameters. -/
def params (a : Args) (l : Fin 2) : Params where
  g1 k := a.g1 (ix2 l k)
  b1 k := a.b1 (ix2 l k)
  Wq k j := a.Wq (ix3 l k j)
  bq k := a.bq (ix2 l k)
  Wk k j := a.Wk (ix3 l k j)
  bk k := a.bk (ix2 l k)
  Wv k j := a.Wv (ix3 l k j)
  bv k := a.bv (ix2 l k)
  Wo k j := a.Wo (ix3 l k j)
  bo k := a.bo (ix2 l k)
  g2 k := a.g2 (ix2 l k)
  b2 k := a.b2 (ix2 l k)
  W1 k j := a.W1 (ix3 l k j)
  c1 k := a.c1 (ix2 l k)
  W2 k j := a.W2 (ix3 l k j)
  c2 k := a.c2 (ix2 l k)

/-- Sample `s`'s patch indices. -/
def sid (a : Args) (s : Fin 4) (n : Fin 2048) : BitVec 32 := a.ids (ix2 s n)

/-- Every patch index is one of the 128. -/
def InRange (a : Args) : Prop := ∀ s n, ∃ p : Fin 128, a.sid s n = BitVec.ofNat 32 p.val

/-- Sample `s`'s input rows after the input projection. -/
def proj (a : Args) (s : Fin 4) (n : Fin 2048) : Fin 128 → EReal :=
  lin (fun k => a.x (ix3 s n k)) (fun k j => a.Win (ix2 k j)) (fun j => a.bin (ix1 j))

/-- Sample `s`'s encoded rows. -/
def enc (a : Args) (s : Fin 4) : Fin 2048 → Fin 128 → EReal :=
  encode (a.params 0) (a.params 1) (fun k j => a.Win (ix2 k j)) (fun j => a.bin (ix1 j)) (a.sid s)
    (fun n k => a.x (ix3 s n k))

/-- The first result: the encoded rows. -/
def out0 (a : Args) : FVec Ideal ⟨3, ![4, 2048, 128]⟩ .f32 := fun i => a.enc (i 0) (i 1) (i 2)

/-- The second result: the patch means. -/
def out1 (a : Args) : FVec Ideal ⟨3, ![4, 128, 128]⟩ .f32 := fun i => summary (a.sid (i 0)) (a.enc (i 0)) (i 1) (i 2)

end Args

end Cert.Spec

end
-- ==== Proof.KArr.lean ====
/- The kernel's two output arrays as functions of the arguments. -/
module

public import proofs.«01_k».proof.Proof.KOut
public import proofs.«01_k».proof.Proof.KHost
public import proofs.«01_k».proof.Proof.Args
public import proofs.«01_k».proof.Proof.IdealBlocks

@[expose] public section

set_option maxRecDepth 16384

noncomputable section

namespace Cert.KArr

open Idealize.ShloMosaic Idealize.ShloMosaic.TcCoe Cert.KernelIdeal Cert.KernelIdeal.Facts Cert.KernelIdeal.Gen Cert.Spec
  Cert.KHost Cert.KVec

variable (m : (ℓ : Loc nD τ sig) → Buf (Elt Ideal) ℓ)

/-- The arguments that the kernel is launched with. -/
def args (c : Dev nD) : Args where
  x := m ((c : Thread nD τ).loc main_arg0)
  ids := m ((c : Thread nD τ).loc main_arg1)
  Win := m ((c : Thread nD τ).loc main_arg2)
  bin := m ((c : Thread nD τ).loc main_arg3)
  g1 := m ((c : Thread nD τ).loc main_arg4)
  b1 := m ((c : Thread nD τ).loc main_arg5)
  Wq := m ((c : Thread nD τ).loc main_arg6)
  bq := m ((c : Thread nD τ).loc main_arg7)
  Wk := m ((c : Thread nD τ).loc main_arg8)
  bk := m ((c : Thread nD τ).loc main_arg9)
  Wv := m ((c : Thread nD τ).loc main_arg10)
  bv := m ((c : Thread nD τ).loc main_arg11)
  Wo := m ((c : Thread nD τ).loc main_arg12)
  bo := m ((c : Thread nD τ).loc main_arg13)
  g2 := m ((c : Thread nD τ).loc main_arg14)
  b2 := m ((c : Thread nD τ).loc main_arg15)
  W1 := m ((c : Thread nD τ).loc main_arg16)
  c1 := m ((c : Thread nD τ).loc main_arg17)
  W2 := m ((c : Thread nD τ).loc main_arg18)
  c2 := m ((c : Thread nD τ).loc main_arg19)

/-- Which block each window reads at a grid point. -/
theorem idx : ∀ t : Fin grid0.N,
    win0_0.index t = ![t.val, 0, 0]
    ∧ win0_1.index t = ![t.val, 0, 0]
    ∧ win0_2.index t = ![t.val, 0, 0]
    ∧ win0_3.index t = ![0, 0]
    ∧ win0_4.index t = ![0, 0]
    ∧ win0_5.index t = ![0, 0, 0]
    ∧ win0_6.index t = ![0, 0, 0]
    ∧ win0_7.index t = ![0, 0, 0]
    ∧ win0_8.index t = ![0, 0, 0]
    ∧ win0_9.index t = ![0, 0, 0]
    ∧ win0_10.index t = ![0, 0, 0]
    ∧ win0_11.index t = ![0, 0, 0]
    ∧ win0_12.index t = ![0, 0, 0]
    ∧ win0_13.index t = ![0, 0, 0]
    ∧ win0_14.index t = ![0, 0, 0]
    ∧ win0_15.index t = ![0, 0, 0]
    ∧ win0_16.index t = ![0, 0, 0]
    ∧ win0_17.index t = ![0, 0, 0]
    ∧ win0_18.index t = ![0, 0, 0]
    ∧ win0_19.index t = ![0, 0, 0]
    ∧ win0_20.index t = ![0, 0, 0]
    ∧ win0_21.index t = ![0, 0]
    ∧ win0_22.index t = ![0, 0]
    ∧ win0_23.index t = ![t.val, 0, 0]
    ∧ win0_24.index t = ![t.val, 0, 0] := by
  decide +kernel

/-- The sample that a grid point works on. -/
def smp (t : Fin cfg0.N) : Fin 4 := ⟨t.val, t.isLt⟩

theorem blk0 (c : Dev nD) (t : Fin cfg0.N) (n : Fin 2048) (k : Fin 128) :
    iblk m c 0 t (ix3 0 n k) = V m c main_arg0 (ix3 (smp t) n k) := by
  unfold smp
  blk_ext [iblk, idx t]

theorem blk1 (c : Dev nD) (t : Fin cfg0.N) (n : Fin 2048) :
    iblk m c 1 t (ix3 0 n 0) = V m c main_v0 (ix3 (smp t) n 0) := by
  unfold smp
  blk_ext [iblk, idx t]

theorem blk2 (c : Dev nD) (t : Fin cfg0.N) (n : Fin 2048) :
    iblk m c 2 t (ix3 0 0 n) = V m c main_v1 (ix3 (smp t) 0 n) := by
  unfold smp
  blk_ext [iblk, idx t]

theorem blk3 (c : Dev nD) (t : Fin cfg0.N) (k : Fin 128) (j : Fin 128) :
    iblk m c 3 t (ix2 k j) = V m c main_arg2 (ix2 k j) := by
  blk_ext [iblk, idx t]

theorem blk4 (c : Dev nD) (t : Fin cfg0.N) (k : Fin 1) (j : Fin 128) :
    iblk m c 4 t (ix2 k j) = V m c main_v29 (ix2 k j) := by
  blk_ext [iblk, idx t]

theorem blk5 (c : Dev nD) (t : Fin cfg0.N) (l : Fin 2) (k : Fin 1) (j : Fin 128) :
    iblk m c 5 t (ix3 l k j) = V m c main_v30 (ix3 l k j) := by
  blk_ext [iblk, idx t]

theorem blk6 (c : Dev nD) (t : Fin cfg0.N) (l : Fin 2) (k : Fin 1) (j : Fin 128) :
    iblk m c 6 t (ix3 l k j) = V m c main_v31 (ix3 l k j) := by
  blk_ext [iblk, idx t]

theorem blk7 (c : Dev nD) (t : Fin cfg0.N) (l : Fin 2) (k : Fin 128) (j : Fin 128) :
    iblk m c 7 t (ix3 l k j) = V m c main_arg6 (ix3 l k j) := by
  blk_ext [iblk, idx t]

theorem blk8 (c : Dev nD) (t : Fin cfg0.N) (l : Fin 2) (k : Fin 1) (j : Fin 128) :
    iblk m c 8 t (ix3 l k j) = V m c main_v32 (ix3 l k j) := by
  blk_ext [iblk, idx t]

theorem blk9 (c : Dev nD) (t : Fin cfg0.N) (l : Fin 2) (k : Fin 128) (j : Fin 128) :
    iblk m c 9 t (ix3 l k j) = V m c main_arg8 (ix3 l k j) := by
  blk_ext [iblk, idx t]

theorem blk10 (c : Dev nD) (t : Fin cfg0.N) (l : Fin 2) (k : Fin 1) (j : Fin 128) :
    iblk m c 10 t (ix3 l k j) = V m c main_v33 (ix3 l k j) := by
  blk_ext [iblk, idx t]

theorem blk11 (c : Dev nD) (t : Fin cfg0.N) (l : Fin 2) (k : Fin 128) (j : Fin 4096) :
    iblk m c 11 t (ix3 l k j) = V m c main_v18 (ix3 l k j) := by
  blk_ext [iblk, idx t]

theorem blk12 (c : Dev nD) (t : Fin cfg0.N) (l : Fin 2) (k : Fin 1) (j : Fin 4096) :
    iblk m c 12 t (ix3 l k j) = V m c main_v20 (ix3 l k j) := by
  blk_ext [iblk, idx t]

theorem blk13 (c : Dev nD) (t : Fin cfg0.N) (l : Fin 2) (k : Fin 128) (j : Fin 128) :
    iblk m c 13 t (ix3 l k j) = V m c main_arg12 (ix3 l k j) := by
  blk_ext [iblk, idx t]

theorem blk14 (c : Dev nD) (t : Fin cfg0.N) (l : Fin 2) (k : Fin 1) (j : Fin 128) :
    iblk m c 14 t (ix3 l k j) = V m c main_v34 (ix3 l k j) := by
  blk_ext [iblk, idx t]

theorem blk15 (c : Dev nD) (t : Fin cfg0.N) (l : Fin 2) (k : Fin 1) (j : Fin 128) :
    iblk m c 15 t (ix3 l k j) = V m c main_v35 (ix3 l k j) := by
  blk_ext [iblk, idx t]

theorem blk16 (c : Dev nD) (t : Fin cfg0.N) (l : Fin 2) (k : Fin 1) (j : Fin 128) :
    iblk m c 16 t (ix3 l k j) = V m c main_v36 (ix3 l k j) := by
  blk_ext [iblk, idx t]

theorem blk17 (c : Dev nD) (t : Fin cfg0.N) (l : Fin 2) (k : Fin 128) (j : Fin 512) :
    iblk m c 17 t (ix3 l k j) = V m c main_arg16 (ix3 l k j) := by
  blk_ext [iblk, idx t]

theorem blk18 (c : Dev nD) (t : Fin cfg0.N) (l : Fin 2) (k : Fin 1) (j : Fin 512) :
    iblk m c 18 t (ix3 l k j) = V m c main_v37 (ix3 l k j) := by
  blk_ext [iblk, idx t]

theorem blk19 (c : Dev nD) (t : Fin cfg0.N) (l : Fin 2) (k : Fin 512) (j : Fin 128) :
    iblk m c 19 t (ix3 l k j) = V m c main_arg18 (ix3 l k j) := by
  blk_ext [iblk, idx t]

theorem blk20 (c : Dev nD) (t : Fin cfg0.N) (l : Fin 2) (k : Fin 1) (j : Fin 128) :
    iblk m c 20 t (ix3 l k j) = V m c main_v38 (ix3 l k j) := by
  blk_ext [iblk, idx t]

theorem blk21 (c : Dev nD) (t : Fin cfg0.N) (k : Fin 1024) (j : Fin 32) :
    iblk m c 21 t (ix2 k j) = V m c main_v10 (ix2 k j) := by
  blk_ext [iblk, idx t]

theorem blk22 (c : Dev nD) (t : Fin cfg0.N) (k : Fin 128) (j : Fin 4) :
    iblk m c 22 t (ix2 k j) = V m c main_v28 (ix2 k j) := by
  blk_ext [iblk, idx t]

/-- What the body's input blocks hold at a grid point. -/
theorem blocks (c : Dev nD) (t : Fin cfg0.N) (hr : (args m c).InRange) :
    Blocks (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
      ((args m c).sid (smp t)) (fun n k => (args m c).x (ix3 (smp t) n k)) (fun k j => (args m c).Win (ix2 k j))
      (fun j => (args m c).bin (ix1 j)) (args m c).params where
  inRange := hr (smp t)
  hx n k := (blk0 m c t n k).trans (congrFun (V_main_arg0 m c) _)
  hcol n := (blk1 m c t n).trans (col_apply m c _ n)
  hrow n := (blk2 m c t n).trans (row_apply m c _ n)
  hWin k j := (blk3 m c t k j).trans (congrFun (V_main_arg2 m c) _)
  hbin j := (blk4 m c t 0 j).trans (v29_apply m c j)
  hg1 l k := (blk5 m c t l 0 k).trans (v30_apply m c l k)
  hb1 l k := (blk6 m c t l 0 k).trans (v31_apply m c l k)
  hWq l k j := (blk7 m c t l k j).trans (congrFun (V_main_arg6 m c) _)
  hbq l k := (blk8 m c t l 0 k).trans (v32_apply m c l k)
  hWk l k j := (blk9 m c t l k j).trans (congrFun (V_main_arg8 m c) _)
  hbk l k := (blk10 m c t l 0 k).trans (v33_apply m c l k)
  hWr l k j := (blk11 m c t l k j).trans (Wr_apply m c l k j)
  hbr l j := (blk12 m c t l 0 j).trans (br_apply m c l j)
  hWo l k j := (blk13 m c t l k j).trans (congrFun (V_main_arg12 m c) _)
  hbo l k := (blk14 m c t l 0 k).trans (v34_apply m c l k)
  hg2 l k := (blk15 m c t l 0 k).trans (v35_apply m c l k)
  hb2 l k := (blk16 m c t l 0 k).trans (v36_apply m c l k)
  hW1 l k j := (blk17 m c t l k j).trans (congrFun (V_main_arg16 m c) _)
  hc1 l k := (blk18 m c t l 0 k).trans (v37_apply m c l k)
  hW2 l k j := (blk19 m c t l k j).trans (congrFun (V_main_arg18 m c) _)
  hc2 l k := (blk20 m c t l 0 k).trans (v38_apply m c l k)
  hM j e := (blk21 m c t j e).trans (M_apply m c j e)
  hD k hd := (blk22 m c t k hd).trans (D_apply m c k hd)

/-- The first output array. -/
theorem arr23 (c : Dev nD) (hr : (args m c).InRange) : (dats m 0 c).arrAt 23 cfg0.N = (args m c).out0 := by
  refine (dats m 0 c).arrAt_eq_of_covers 23 _ (by decide +kernel) fun t hf y => ?_
  blk_simp
  rw [after0_23]
  have e : (win0_23.blk t).view.emb y = ix3 (smp t) (y 1) (y 2) := by
    unfold smp
    blk_ext [idx t]
  have hy : y = ix3 0 (y 1) (y 2) := by blk_ext
  rw [e, hy]
  exact out23_apply (blocks m c t hr) (y 1) (y 2)

/-- The second output array. -/
theorem arr24 (c : Dev nD) (hr : (args m c).InRange) : (dats m 0 c).arrAt 24 cfg0.N = (args m c).out1 := by
  refine (dats m 0 c).arrAt_eq_of_covers 24 _ (by decide +kernel) fun t hf y => ?_
  blk_simp
  rw [after0_24]
  have e : (win0_24.blk t).view.emb y = ix3 (smp t) (y 1) (y 2) := by
    unfold smp
    blk_ext [idx t]
  have hy : y = ix3 0 (y 1) (y 2) := by blk_ext
  rw [e, hy]
  exact out24_apply (blocks m c t hr) (y 1) (y 2)

end Cert.KArr

end
-- ==== Proof.RMath.lean ====
/- Arithmetic on extended reals that the reference needs: a quotient by a standard deviation against a product with its
   reciprocal, and the exponential less one, plus one. -/
module

public import proofs.«01_k».proof.Proof.Spec
public import Idealize.ShloMosaic.Lib.Pointwise

@[expose] public section

noncomputable section

namespace Cert.RMath

open Idealize.ShloMosaic Cert.Spec

theorem c128_eq : c128 = ((128 : ℝ) : EReal) := by
  unfold c128
  simp [Ideal.ofBits, Ideal.ieee, -EReal.coe_mul]; norm_num

theorem epsLn_eq : epsLn = ((10995116 * 2 ^ (-40 : ℤ) : ℝ) : EReal) := by
  unfold epsLn
  simp [Ideal.ofBits, Ideal.ieee, -EReal.coe_mul]

theorem c128_pos : 0 < c128 := by
  rw [c128_eq]; exact_mod_cast (by norm_num : (0 : ℝ) < 128)

theorem epsLn_pos : 0 < epsLn := by
  rw [epsLn_eq]; exact_mod_cast (by positivity : (0 : ℝ) < 10995116 * 2 ^ (-40 : ℤ))

/-- Nothing taken off the divisor leaves it as it was. -/
theorem c128_sub_zero : c128 - ((0 : ℝ) : EReal) = c128 := by
  rw [c128_eq, ← EReal.coe_sub, sub_zero]

theorem sq_nonneg (x : EReal) : 0 ≤ x * x := by
  induction x with
  | bot => exact (by rw [EReal.bot_mul_bot]; exact le_top)
  | top => exact (by rw [EReal.top_mul_top]; exact le_top)
  | coe r => exact_mod_cast mul_self_nonneg r

theorem var_nonneg (x : Fin 128 → EReal) : 0 ≤ var x := by
  unfold var Ideal.div
  rw [if_neg c128_pos.ne']
  refine mul_nonneg (Finset.sum_nonneg fun k _ => sq_nonneg _) ?_
  rw [c128_eq, ← EReal.coe_inv]
  exact_mod_cast (by norm_num : (0 : ℝ) ≤ 128⁻¹)

/-- A quotient by a positive number's root is a product with the root's reciprocal. -/
theorem div_sqrt (x w : EReal) (hw : 0 < w) : Ideal.div x (Ideal.sqrt w) = x * Ideal.rsqrt w := by
  induction w with
  | bot => exact absurd hw (by simp)
  | top =>
    show Ideal.div x ⊤ = x * 0
    unfold Ideal.div
    rw [if_neg EReal.top_ne_zero, EReal.inv_top]
  | coe r =>
    have hr : 0 < r := by exact_mod_cast hw
    have hs : 0 < Real.sqrt r := Real.sqrt_pos.2 hr
    show Ideal.div x (if r < 0 then (⊥ : EReal) else (Real.sqrt r : EReal))
      = x * (if r < 0 then (⊥ : EReal) else if r = 0 then (⊤ : EReal) else (((Real.sqrt r)⁻¹ : ℝ) : EReal))
    rw [if_neg (not_lt.2 hr.le), if_neg (not_lt.2 hr.le), if_neg hr.ne']
    unfold Ideal.div
    rw [if_neg (by exact_mod_cast hs.ne'), EReal.coe_inv]

/-- The normalised value, with a quotient by the standard deviation. -/
theorem ln_eq (x g b : Fin 128 → EReal) (d : Fin 128) :
    Ideal.div (x d - mean x) (Ideal.sqrt (var x + epsLn)) * g d + b d = ln x g b d := by
  rw [div_sqrt _ _ (lt_of_lt_of_le epsLn_pos (le_add_of_nonneg_left (var_nonneg x)))]
  rfl

/-- Below zero the exponential is real, so taking one off and adding it back changes nothing. -/
theorem expm1_add_one (z : EReal) (hz : ¬ 0 < z) : Ideal.exp z - 1 + 1 = Ideal.exp z := by
  induction z with
  | bot =>
    show (0 : EReal) - 1 + 1 = 0
    rw [← EReal.coe_zero, ← EReal.coe_one, ← EReal.coe_sub, ← EReal.coe_add]
    norm_num
  | top => exact absurd EReal.zero_lt_top hz
  | coe r =>
    show ((Real.exp r : ℝ) : EReal) - 1 + 1 = ((Real.exp r : ℝ) : EReal)
    exact_mod_cast (by ring : Real.exp r - 1 + 1 = Real.exp r)

/-- The feature map as one plus the exponential linear unit. -/
theorem phi_eq (z a : EReal) :
    (if 0 < z then z else Ideal.exp (if 0 < z then a else z) - 1) + 1 = phi z := by
  unfold phi
  split_ifs with h
  · rfl
  · exact expm1_add_one z h

end Cert.RMath

end
-- ==== Proof.RVec.lean ====
/- The reference's vector computations over all 8192 tokens, one step at a time, and their elements. -/
module

public import proofs.«01_k».proof.Proof.RMath
public import Idealize.ShloMosaic.Lib.Routing.OpsPair
public import proofs.«01_k».proof.Proof.Gen.ReferenceIdeal.Run
public import Idealize.ShloMosaic.Lib.Pointwise

@[expose] public section

set_option maxRecDepth 16384

noncomputable section

namespace Cert.RVec

open Idealize.ShloMosaic Cert.ReferenceIdeal Cert.ReferenceIdeal.Facts Cert.ReferenceIdeal.Gen Cert.Spec

/-- Each row less its mean. -/
def rCen (h : FVec Ideal S8192x128 .f32) : FVec Ideal S8192x128 .f32 :=
  subf h (broadcastInDim S8192x128 ![0, 1] bcast_S8192x1_S8192x128_0_1 (Host.divf (broadcastInDim S8192x1 ![0]
    bcast_S8192_S8192x1_0 (Host.reduceAdd h (constant S_ .f32 0x00000000#32) reducesTo_S8192x128_S8192_d1 h_S_))
    (broadcastInDim S8192x1 ![] bcast_S_S8192x1 (constant S_ .f32 0x43000000#32))))

/-- The variance's divisor, `128 - 0`. -/
def rDof : FVec Ideal S_ .f32 :=
  subf (constant S_ .f32 0x43000000#32) (sitofp .f32 (constantI S_ 32 0#32))

/-- Layer normalisation of the tokens. -/
def rLn (h : FVec Ideal S8192x128 .f32) (g b : FVec Ideal S128 .f32) : FVec Ideal S8192x128 .f32 :=
  addf (mulf (Host.divf (subf h (broadcastInDim S8192x128 ![0, 1] bcast_S8192x1_S8192x128_0_1 (Host.divf
    (broadcastInDim S8192x1 ![0] bcast_S8192_S8192x1_0 (Host.reduceAdd h (constant S_ .f32 0x00000000#32)
    reducesTo_S8192x128_S8192_d1 h_S_)) (broadcastInDim S8192x1 ![] bcast_S_S8192x1 (constant S_ .f32
    0x43000000#32))))) (broadcastInDim S8192x128 ![0, 1] bcast_S8192x1_S8192x128_0_1 (Host.sqrt (addf (select
    (broadcastInDim S8192x1 ![] bcast_S_S8192x1 (cmpf .ogt rDof (constant S_ .f32 0x00000000#32))) (Host.divf
    (broadcastInDim S8192x1 ![0] bcast_S8192_S8192x1_0 (Host.reduceAdd (mulf (rCen h) (rCen h)) (constant S_ .f32
    0x00000000#32) reducesTo_S8192x128_S8192_d1 h_S_)) (broadcastInDim S8192x1 ![] bcast_S_S8192x1 rDof))
    (broadcastInDim S8192x1 ![] bcast_S_S8192x1 (id (constant S_ .f32 0x7FC00000#32)))) (broadcastInDim S8192x1 ![]
    bcast_S_S8192x1 (constant S_ .f32 0x3727C5AC#32)))))) (broadcastInDim S8192x128 ![0, 1]
    bcast_S1x128_S8192x128_0_1 (broadcastInDim S1x128 ![1] bcast_S128_S1x128_1 g))) (broadcastInDim S8192x128 ![0, 1]
    bcast_S1x128_S8192x128_0_1 (broadcastInDim S1x128 ![1] bcast_S128_S1x128_1 b))

/-- An affine map of the tokens. -/
def rLin (y : FVec Ideal S8192x128 .f32) (W : FVec Ideal S128x128 .f32) (b : FVec Ideal S128 .f32) :
    FVec Ideal S8192x128 .f32 :=
  addf (Host.dotGeneral dot_S8192x128_S128x128_S8192x128_1_0_0_1_n_n none y W) (broadcastInDim S8192x128 ![0, 1]
    bcast_S1x128_S8192x128_0_1 (broadcastInDim S1x128 ![1] bcast_S128_S1x128_1 b))

/-- The feature map, head by head. -/
def rPhi (z : FVec Ideal S8192x4x32 .f32) : FVec Ideal S8192x4x32 .f32 :=
  addf (select (cmpf .ogt z (broadcastInDim S8192x4x32 ![] bcast_S_S8192x4x32 (constant S_ .f32 0x00000000#32))) z
    (mulf (broadcastInDim S8192x4x32 ![] bcast_S_S8192x4x32 (constant S_ .f32 0x3F800000#32)) (Host.expm1 (select
    (cmpf .ogt z (broadcastInDim S8192x4x32 ![] bcast_S_S8192x4x32 (constant S_ .f32 0x00000000#32))) (broadcastInDim
    S8192x4x32 ![] bcast_S_S8192x4x32 (id (constant S_ .f32 0x00000000#32))) z)))) (broadcastInDim S8192x4x32 ![]
    bcast_S_S8192x4x32 (constant S_ .f32 0x3F800000#32))

/-- The segment ids as row numbers of a table of segments. -/
def rIdx (seg : Vec Ideal S8192 .i32) : Vec Ideal S8192x1 .i32 :=
  broadcastInDim S8192x1 ![0] bcast_S8192_S8192x1_0 (select (cmpi .slt seg (broadcastInDim S8192 ![] bcast_S_S8192
    (constantI S_ 32 0#32))) (addi seg (broadcastInDim S8192 ![] bcast_S_S8192 (constantI S_ 32 512#32))) seg)

/-- A token's keys times its values, pair by pair within a head. -/
def rPair (k v : FVec Ideal S8192x4x32 .f32) : FVec Ideal S8192x4096 .f32 :=
  shapeCast _ (mulf (broadcastInDim S8192x4x32x32 ![0, 1, 2, 3] bcast_S8192x4x32x1_S8192x4x32x32_0_1_2_3
    (broadcastInDim S8192x4x32x1 ![0, 1, 2] bcast_S8192x4x32_S8192x4x32x1_0_1_2 k)) (broadcastInDim S8192x4x32x32
    ![0, 1, 2, 3] bcast_S8192x4x1x32_S8192x4x32x32_0_1_2_3 (broadcastInDim S8192x4x1x32 ![0, 1, 3]
    bcast_S8192x4x32_S8192x4x1x32_0_1_3 v))) shapeCasts_S8192x4x32x32_S8192x4096

/-- The key-value sums of each token's segment. -/
def rKV (seg : Vec Ideal S8192 .i32) (k v : FVec Ideal S8192x4x32 .f32) : FVec Ideal S8192x4x32x32 .f32 :=
  shapeCast _ (Host.gather gather_S512x4096_S8192x1_S8192x4096_1_0_n_n_0_1_14096 (Host.scatterAdd
    scatter_S512x4096_S8192x1_S8192x4096_1_0_0_1 (broadcastInDim S512x4096 ![] bcast_S_S512x4096 (constant S_ .f32
    0x00000000#32)) (broadcastInDim S8192x1 ![0] bcast_S8192_S8192x1_0 seg) (rPair k v)) (rIdx seg))
    shapeCasts_S8192x4096_S8192x4x32x32

/-- The key sums of each token's segment. -/
def rKS (seg : Vec Ideal S8192 .i32) (k : FVec Ideal S8192x4x32 .f32) : FVec Ideal S8192x4x32 .f32 :=
  shapeCast _ (Host.gather gather_S512x128_S8192x1_S8192x128_1_0_n_n_0_1_1128 (Host.scatterAdd
    scatter_S512x128_S8192x1_S8192x128_1_0_0_1 (broadcastInDim S512x128 ![] bcast_S_S512x128 (constant S_ .f32
    0x00000000#32)) (broadcastInDim S8192x1 ![0] bcast_S8192_S8192x1_0 seg) (shapeCast _ k
    shapeCasts_S8192x4x32_S8192x128)) (rIdx seg)) shapeCasts_S8192x128_S8192x4x32

/-- Linearised attention of the tokens. -/
def rAttn (seg : Vec Ideal S8192 .i32) (q k v : FVec Ideal S8192x4x32 .f32) : FVec Ideal S8192x128 .f32 :=
  shapeCast _ (Host.divf (Host.dotGeneral dot_S8192x4x32_S8192x4x32x32_S8192x4x32_2_2_n_3_01_01 none q (rKV seg k v))
    (broadcastInDim S8192x4x32 ![0, 1, 2] bcast_S8192x4x1_S8192x4x32_0_1_2 (addf (broadcastInDim S8192x4x1 ![0, 1]
    bcast_S8192x4_S8192x4x1_0_1 (Host.reduceAdd (mulf q (rKS seg k)) (constant S_ .f32 0x00000000#32)
    reducesTo_S8192x4x32_S8192x4_d2 h_S_)) (broadcastInDim S8192x4x1 ![] bcast_S_S8192x4x1 (constant S_ .f32
    0x358637BD#32))))) shapeCasts_S8192x4x32_S8192x128

/-- A residual plus an affine map of what the attention gives. -/
def rOut (h a : FVec Ideal S8192x128 .f32) (W : FVec Ideal S128x128 .f32) (b : FVec Ideal S128 .f32) :
    FVec Ideal S8192x128 .f32 :=
  addf (addf h (Host.dotGeneral dot_S8192x128_S128x128_S8192x128_1_0_0_1_n_n none a W)) (broadcastInDim S8192x128
    ![0, 1] bcast_S1x128_S8192x128_0_1 (broadcastInDim S1x128 ![1] bcast_S128_S1x128_1 b))

/-- The feed-forward half's hidden features. -/
def rHid (y : FVec Ideal S8192x128 .f32) (W : FVec Ideal S128x512 .f32) (b : FVec Ideal S512 .f32) :
    FVec Ideal S8192x512 .f32 :=
  maximumf (addf (Host.dotGeneral dot_S8192x128_S128x512_S8192x512_1_0_0_1_n_n none y W) (broadcastInDim S8192x512
    ![0, 1] bcast_S1x512_S8192x512_0_1 (broadcastInDim S1x512 ![1] bcast_S512_S1x512_1 b))) (broadcastInDim S8192x512
    ![] bcast_S_S8192x512 (constant S_ .f32 0x00000000#32))

/-- A residual plus an affine map of the hidden features. -/
def rFf (h : FVec Ideal S8192x128 .f32) (u : FVec Ideal S8192x512 .f32) (W : FVec Ideal S512x128 .f32)
    (b : FVec Ideal S128 .f32) : FVec Ideal S8192x128 .f32 :=
  addf (addf h (Host.dotGeneral dot_S8192x512_S512x128_S8192x128_1_0_0_1_n_n none u W)) (broadcastInDim S8192x128
    ![0, 1] bcast_S1x128_S8192x128_0_1 (broadcastInDim S1x128 ![1] bcast_S128_S1x128_1 b))

theorem rLin_apply (y : FVec Ideal S8192x128 .f32) (W : FVec Ideal S128x128 .f32) (b : FVec Ideal S128 .f32)
    (r : Fin 8192) (j : Fin 128) :
    rLin y W b (ix2 r j) = lin (fun k => y (ix2 r k)) (fun k j => W (ix2 k j)) (fun j => b (ix1 j)) j := by
  unfold rLin
  pointwise
  rfl

theorem rOut_apply (h a : FVec Ideal S8192x128 .f32) (W : FVec Ideal S128x128 .f32) (b : FVec Ideal S128 .f32)
    (r : Fin 8192) (d : Fin 128) :
    rOut h a W b (ix2 r d) = h (ix2 r d) + (∑ j : Fin 128, a (ix2 r j) * W (ix2 j d)) + b (ix1 d) := by
  unfold rOut
  pointwise

theorem rHid_apply (y : FVec Ideal S8192x128 .f32) (W : FVec Ideal S128x512 .f32) (b : FVec Ideal S512 .f32)
    (r : Fin 8192) (f : Fin 512) :
    rHid y W b (ix2 r f) = max (lin (fun k => y (ix2 r k)) (fun k j => W (ix2 k j)) (fun j => b (ix1 j)) f) 0 := by
  unfold rHid
  pointwise
  rfl

theorem rFf_apply (h : FVec Ideal S8192x128 .f32) (u : FVec Ideal S8192x512 .f32) (W : FVec Ideal S512x128 .f32)
    (b : FVec Ideal S128 .f32) (r : Fin 8192) (d : Fin 128) :
    rFf h u W b (ix2 r d) = h (ix2 r d) + (∑ f : Fin 512, u (ix2 r f) * W (ix2 f d)) + b (ix1 d) := by
  unfold rFf
  pointwise

theorem rPair_apply (k v : FVec Ideal S8192x4x32 .f32) (r : Fin 8192) (n : Fin 4) (d e : Fin 32) (c : Fin 4096)
    (hc : c.val = 1024 * n.val + 32 * d.val + e.val) :
    rPair k v (ix2 r c) = k (ix3 r n d) * v (ix3 r n e) := by
  unfold rPair
  pointwise
  rw [show (⟨c.val / 1024, _⟩ : Fin 4) = n from Fin.ext (by simp only []; omega),
    show (⟨c.val / 32 % 32, _⟩ : Fin 32) = d from Fin.ext (by simp only []; omega),
    show (⟨c.val % 32, _⟩ : Fin 32) = e from Fin.ext (by simp only []; omega)]

theorem rPhi_apply (z : FVec Ideal S8192x4x32 .f32) (i : S8192x4x32.Idx) : rPhi z i = phi (z i) := by
  unfold rPhi
  idx_vars i
  pointwise
  exact RMath.phi_eq _ _

theorem rLn_apply (h : FVec Ideal S8192x128 .f32) (g b : FVec Ideal S128 .f32) (r : Fin 8192) (d : Fin 128) :
    rLn h g b (ix2 r d) = ln (fun k => h (ix2 r k)) (fun k => g (ix1 k)) (fun k => b (ix1 k)) d := by
  unfold rLn rCen rDof
  pointwise
  have h0 : (FloatOps.sitofp (F := Ideal) .f32 0#32 : EReal) = ((0 : ℝ) : EReal) := by
    show (((0#32 : BitVec 32).toInt : ℝ) : EReal) = _
    simp
  rw [h0, show Ideal.ofBits .f32 1124073472#32 - ((0 : ℝ) : EReal) = c128 from RMath.c128_sub_zero,
    if_pos RMath.c128_pos]
  exact RMath.ln_eq (fun k => h (ix2 r k)) (fun k => g (ix1 k)) (fun k => b (ix1 k)) d

theorem rIdx_apply (seg : Vec Ideal S8192 .i32) (r : Fin 8192) (g : Fin 512)
    (hg : seg (ix1 r) = BitVec.ofNat 32 g.val) : rIdx seg (ix2 r 0) = BitVec.ofNat 32 g.val := by
  unfold rIdx
  pointwise
  rw [Routing.wrap_of_lt _ _ (by rw [hg, BitVec.toNat_ofNat]; omega), hg]

end Cert.RVec

end
-- ==== Proof.RScatter.lean ====
/- A sum by segment: where the rows of a table of updates land, and the table of sums at an index. -/
module

public import Idealize.ShloMosaic.Lib.Pointwise
public import Idealize.ShloMosaic.Lib.Routing.OpsPair

@[expose] public section

noncomputable section

namespace Cert.RScatter

open Idealize.ShloMosaic

/-- Whole rows scattered by one row number each. -/
abbrev rows (G C T : ℕ) (wf : ScatterDims.WF ⟨2, ![G, C]⟩ ⟨2, ![T, 1]⟩ ⟨2, ![T, C]⟩ [1] [0] [0] 1) :
    ScatterDims ⟨2, ![G, C]⟩ ⟨2, ![T, 1]⟩ ⟨2, ![T, C]⟩ where
  updateWindowDims := [1]
  insertedWindowDims := [0]
  scatterDimsToOperandDims := [0]
  indexVectorDim := 1
  wf := wf

/-- Single elements scattered by one index each. -/
abbrev elts (G T : ℕ) (wf : ScatterDims.WF ⟨1, ![G]⟩ ⟨2, ![T, 1]⟩ ⟨1, ![T]⟩ [] [0] [0] 1) :
    ScatterDims ⟨1, ![G]⟩ ⟨2, ![T, 1]⟩ ⟨1, ![T]⟩ where
  updateWindowDims := []
  insertedWindowDims := [0]
  scatterDimsToOperandDims := [0]
  indexVectorDim := 1
  wf := wf

variable {G C T w : ℕ}

/-- Element `(t, k)` lands at `(g, c)` exactly when `t`'s row number is `g` and `k` is `c`. -/
theorem rows_lands (wf : ScatterDims.WF ⟨2, ![G, C]⟩ ⟨2, ![T, 1]⟩ ⟨2, ![T, C]⟩ [1] [0] [0] 1)
    (idx : IVec ⟨2, ![T, 1]⟩ w) (t : Fin T) (k : Fin C) (g : Fin G) (c : Fin C) :
    (rows G C T wf).resultIdx? (ix2 t k) idx = some (ix2 g c) ↔ (idx (ix2 t 0)).toInt = g.val ∧ k = c := by
  refine (Routing.resultIdx?_ix2 _ (ix2 t k) idx g c).trans ?_
  have hs0 : (rows G C T wf).start (ix2 t k) idx 0 = (idx (ix2 t 0)).toInt := by
    unfold ScatterDims.start
    rw [dif_pos (show (0 : Fin 2) ∈ (rows G C T wf).scatterDimsToOperandDims from List.mem_singleton.2 rfl)]
    refine congrArg (fun i => (idx i).toInt) (funext fun b => Fin.ext ?_)
    match b with
    | ⟨0, _⟩ => rfl
    | ⟨1, _⟩ => rfl
  have hs1 : (rows G C T wf).start (ix2 t k) idx 1 = 0 := by
    unfold ScatterDims.start
    rw [dif_neg fun h => absurd (congrArg Fin.val (List.mem_singleton.1 h)) Nat.one_ne_zero]
  have hw0 : (rows G C T wf).window (ix2 t k) 0 = 0 := rfl
  have hw1 : (rows G C T wf).window (ix2 t k) 1 = k.val := rfl
  rw [hs0, hs1, hw0, hw1]
  constructor
  · rintro ⟨h, h'⟩
    exact ⟨by omega, Fin.ext (by omega)⟩
  · rintro ⟨h, rfl⟩
    exact ⟨by omega, by omega⟩

/-- Element `t` lands at `g` exactly when its index is `g`. -/
theorem elts_lands (wf : ScatterDims.WF ⟨1, ![G]⟩ ⟨2, ![T, 1]⟩ ⟨1, ![T]⟩ [] [0] [0] 1)
    (idx : IVec ⟨2, ![T, 1]⟩ w) (t : Fin T) (g : Fin G) :
    (elts G T wf).resultIdx? (ix1 t) idx = some (ix1 g) ↔ (idx (ix2 t 0)).toInt = g.val := by
  refine (Routing.resultIdx?_ix1 _ (ix1 t) idx g).trans ?_
  have hs0 : (elts G T wf).start (ix1 t) idx 0 = (idx (ix2 t 0)).toInt := by
    unfold ScatterDims.start
    rw [dif_pos (show (0 : Fin 1) ∈ (elts G T wf).scatterDimsToOperandDims from List.mem_singleton.2 rfl)]
    refine congrArg (fun i => (idx i).toInt) (funext fun b => Fin.ext ?_)
    match b with
    | ⟨0, _⟩ => rfl
    | ⟨1, _⟩ => rfl
  have hw0 : (elts G T wf).window (ix1 t) 0 = 0 := rfl
  rw [hs0, hw0]
  constructor <;> intro h <;> omega

/-- A sum of rows by segment, at segment `g` and column `c`. -/
theorem rows_sum (wf : ScatterDims.WF ⟨2, ![G, C]⟩ ⟨2, ![T, 1]⟩ ⟨2, ![T, C]⟩ [1] [0] [0] 1)
    (x : FVec Ideal ⟨2, ![G, C]⟩ .f32) (idx : IVec ⟨2, ![T, 1]⟩ w) (u : FVec Ideal ⟨2, ![T, C]⟩ .f32)
    (g : Fin G) (c : Fin C) :
    Host.scatterAdd (rows G C T wf) x idx u (ix2 g c)
      = x (ix2 g c) + ∑ t : Fin T, if (idx (ix2 t 0)).toInt = g.val then u (ix2 t c) else 0 := by
  show x (ix2 g c) + ∑ j ∈ Finset.univ.filter (fun j => (rows G C T wf).resultIdx? j idx = some (ix2 g c)), u j = _
  rw [Finset.sum_filter, sum_idx2]
  refine congrArg (x (ix2 g c) + ·) (Finset.sum_congr rfl fun t _ => ?_)
  simp only [rows_lands]
  rw [Finset.sum_eq_single c]
  · simp only [and_true]
  · intro k _ hk
    rw [if_neg fun h => hk h.2]
  · intro h
    exact absurd (Finset.mem_univ c) h

/-- A sum of elements by segment, at segment `g`. -/
theorem elts_sum (wf : ScatterDims.WF ⟨1, ![G]⟩ ⟨2, ![T, 1]⟩ ⟨1, ![T]⟩ [] [0] [0] 1)
    (x : FVec Ideal ⟨1, ![G]⟩ .f32) (idx : IVec ⟨2, ![T, 1]⟩ w) (u : FVec Ideal ⟨1, ![T]⟩ .f32) (g : Fin G) :
    Host.scatterAdd (elts G T wf) x idx u (ix1 g)
      = x (ix1 g) + ∑ t : Fin T, if (idx (ix2 t 0)).toInt = g.val then u (ix1 t) else 0 := by
  show x (ix1 g) + ∑ j ∈ Finset.univ.filter (fun j => (elts G T wf).resultIdx? j idx = some (ix1 g)), u j = _
  rw [Finset.sum_filter, sum_idx1]
  refine congrArg (x (ix1 g) + ·) (Finset.sum_congr rfl fun t _ => ?_)
  simp only [elts_lands]

end Cert.RScatter

end
-- ==== Proof.RSeg.lean ====
/- The reference's segments: sample `s`'s patch `p` is segment `128 * s + p`, and a sum over a segment's tokens is a sum
   over the sample's tokens of that patch. -/
module

public import proofs.«01_k».proof.Proof.RVec
public import proofs.«01_k».proof.Proof.RScatter
public import Idealize.ShloMosaic.Lib.Routing.Ops

@[expose] public section

set_option maxRecDepth 16384

noncomputable section

namespace Cert.RSeg

open Idealize.ShloMosaic Cert.ReferenceIdeal Cert.ReferenceIdeal.Facts Cert.ReferenceIdeal.Gen Cert.Spec Cert.RVec

/-- Token `n` of sample `s` among all tokens. -/
def tok (s : Fin 4) (n : Fin 2048) : Fin 8192 := ⟨2048 * s.val + n.val, by omega⟩

/-- Patch `p` of sample `s` among all segments. -/
def grp (s : Fin 4) (p : Fin 128) : Fin 512 := ⟨128 * s.val + p.val, by omega⟩

/-- The tokens, sample by sample. -/
def tokEquiv : Fin 4 × Fin 2048 ≃ Fin 8192 where
  toFun q := tok q.1 q.2
  invFun r := (⟨r.val / 2048, by omega⟩, ⟨r.val % 2048, by omega⟩)
  left_inv q := Prod.ext (Fin.ext (by simp only [tok]; omega)) (Fin.ext (by simp only [tok]; omega))
  right_inv r := Fin.ext (by simp only [tok]; omega)

/-- A sum over all tokens, sample by sample. -/
theorem sum_tok (f : Fin 8192 → EReal) : ∑ r, f r = ∑ s, ∑ n, f (tok s n) := by
  rw [← tokEquiv.sum_comp, Fintype.sum_prod_type]
  rfl

/-- `seg` numbers the patches named by `ids`, sample by sample. -/
def IsSeg (seg : Vec Ideal S8192 .i32) (ids : Fin 4 → Fin 2048 → BitVec 32) : Prop :=
  ∀ s n, ∃ p : Fin 128, ids s n = BitVec.ofNat 32 p.val ∧ seg (ix1 (tok s n)) = BitVec.ofNat 32 (grp s p).val

theorem ofNat_eq {a b : ℕ} (ha : a < 2 ^ 32) (hb : b < 2 ^ 32) (h : BitVec.ofNat 32 a = BitVec.ofNat 32 b) : a = b := by
  have := congrArg BitVec.toNat h
  simp only [BitVec.toNat_ofNat] at this
  omega

/-- A segment's sum is the sum over the sample's tokens of the patch. -/
theorem seg_sum {seg : Vec Ideal S8192 .i32} {ids : Fin 4 → Fin 2048 → BitVec 32} (H : IsSeg seg ids) (s : Fin 4)
    (p : Fin 128) (f : Fin 8192 → EReal) :
    (∑ t : Fin 8192, if (seg (ix1 t)).toInt = (grp s p).val then f t else 0)
      = ∑ n : Fin 2048, if ids s n = BitVec.ofNat 32 p.val then f (tok s n) else 0 := by
  rw [sum_tok, Finset.sum_eq_single s]
  · refine Finset.sum_congr rfl fun n _ => if_congr ?_ rfl rfl
    obtain ⟨q, hq, hg⟩ := H s n
    rw [hq, hg, StableHlo.Predicate.toInt_ofNat_small _ (by have := (grp s q).isLt; omega)]
    simp only [grp]
    constructor
    · intro h
      rw [show q.val = p.val by omega]
    · intro h
      have := ofNat_eq (by omega) (by omega) h
      omega
  · intro s' _ hs
    refine Finset.sum_eq_zero fun n _ => if_neg ?_
    obtain ⟨q, -, hg⟩ := H s' n
    rw [hg, StableHlo.Predicate.toInt_ofNat_small _ (by have := (grp s' q).isLt; omega)]
    simp only [grp]
    intro h
    exact hs (Fin.ext (by omega))
  · intro h
    exact absurd (Finset.mem_univ s) h

theorem rKV_apply {seg : Vec Ideal S8192 .i32} {ids : Fin 4 → Fin 2048 → BitVec 32} (H : IsSeg seg ids)
    (k v : FVec Ideal S8192x4x32 .f32) (s : Fin 4) (m : Fin 2048) (n : Fin 4) (d e : Fin 32) :
    rKV seg k v (ix4 (tok s m) n d e)
      = patchSum (ids s) (fun t => k (ix3 (tok s t) n d) * v (ix3 (tok s t) n e)) m := by
  obtain ⟨p, hp, hg⟩ := H s m
  unfold rKV
  pointwise
  refine (Routing.gather_row gather_S512x4096_S8192x1_S8192x4096_1_0_n_n_0_1_14096 rfl rfl rfl rfl rfl _ (rIdx seg) (tok s m) _ (grp s p)
    (rIdx_apply seg (tok s m) (grp s p) hg) (by norm_num)).trans ?_
  refine (RScatter.rows_sum scatter_S512x4096_S8192x1_S8192x4096_1_0_0_1_wf _ _ _ (grp s p) _).trans ?_
  pointwise
  rw [seg_sum H s p]
  unfold patchSum
  rw [hp]
  refine Finset.sum_congr rfl fun t _ => if_congr Iff.rfl ?_ rfl
  exact rPair_apply k v (tok s t) n d e _ (by simp only []; omega)

theorem rKS_apply {seg : Vec Ideal S8192 .i32} {ids : Fin 4 → Fin 2048 → BitVec 32} (H : IsSeg seg ids)
    (k : FVec Ideal S8192x4x32 .f32) (s : Fin 4) (m : Fin 2048) (n : Fin 4) (d : Fin 32) :
    rKS seg k (ix3 (tok s m) n d) = patchSum (ids s) (fun t => k (ix3 (tok s t) n d)) m := by
  obtain ⟨p, hp, hg⟩ := H s m
  unfold rKS
  pointwise
  refine (Routing.gather_row gather_S512x128_S8192x1_S8192x128_1_0_n_n_0_1_1128 rfl rfl rfl rfl rfl _ (rIdx seg) (tok s m) _ (grp s p)
    (rIdx_apply seg (tok s m) (grp s p) hg) (by norm_num)).trans ?_
  refine (RScatter.rows_sum scatter_S512x128_S8192x1_S8192x128_1_0_0_1_wf _ _ _ (grp s p) _).trans ?_
  pointwise
  rw [seg_sum H s p]
  unfold patchSum
  rw [hp]

theorem rAttn_apply (seg : Vec Ideal S8192 .i32) (q k v : FVec Ideal S8192x4x32 .f32) (r : Fin 8192) (j : Fin 128) :
    rAttn seg q k v (ix2 r j) = Ideal.div
      (∑ d : Fin 32, q (ix3 r ⟨j.val / 32, by omega⟩ d) * rKV seg k v (ix4 r ⟨j.val / 32, by omega⟩ d ⟨j.val % 32, by omega⟩))
      ((∑ d : Fin 32, q (ix3 r ⟨j.val / 32, by omega⟩ d) * rKS seg k (ix3 r ⟨j.val / 32, by omega⟩ d)) + epsAtt) := by
  unfold rAttn
  pointwise
  rfl

end Cert.RSeg

end
-- ==== Proof.RLayer.lean ====
/- The reference's layer over all 8192 tokens: it computes every sample's layer. -/
module

public import proofs.«01_k».proof.Proof.RSeg
public import proofs.«01_k».proof.Proof.Args

@[expose] public section

set_option maxRecDepth 16384

noncomputable section

namespace Cert.RLayer

open Idealize.ShloMosaic Cert.ReferenceIdeal Cert.ReferenceIdeal.Facts Cert.ReferenceIdeal.Gen Cert.Spec Cert.RVec Cert.RSeg

/-- One layer's parameters as the reference slices them. -/
structure Par where
  g1 : FVec Ideal S128 .f32
  b1 : FVec Ideal S128 .f32
  Wq : FVec Ideal S128x128 .f32
  bq : FVec Ideal S128 .f32
  Wk : FVec Ideal S128x128 .f32
  bk : FVec Ideal S128 .f32
  Wv : FVec Ideal S128x128 .f32
  bv : FVec Ideal S128 .f32
  Wo : FVec Ideal S128x128 .f32
  bo : FVec Ideal S128 .f32
  g2 : FVec Ideal S128 .f32
  b2 : FVec Ideal S128 .f32
  W1 : FVec Ideal S128x512 .f32
  c1 : FVec Ideal S512 .f32
  W2 : FVec Ideal S512x128 .f32
  c2 : FVec Ideal S128 .f32

/-- Those parameters, element by element. -/
def Par.params (P : Par) : Params where
  g1 k := P.g1 (ix1 k)
  b1 k := P.b1 (ix1 k)
  Wq k j := P.Wq (ix2 k j)
  bq k := P.bq (ix1 k)
  Wk k j := P.Wk (ix2 k j)
  bk k := P.bk (ix1 k)
  Wv k j := P.Wv (ix2 k j)
  bv k := P.bv (ix1 k)
  Wo k j := P.Wo (ix2 k j)
  bo k := P.bo (ix1 k)
  g2 k := P.g2 (ix1 k)
  b2 k := P.b2 (ix1 k)
  W1 k j := P.W1 (ix2 k j)
  c1 k := P.c1 (ix1 k)
  W2 k j := P.W2 (ix2 k j)
  c2 k := P.c2 (ix1 k)

/-- An affine map of the tokens, split into heads. -/
def rHeads (y : FVec Ideal S8192x128 .f32) (W : FVec Ideal S128x128 .f32) (b : FVec Ideal S128 .f32) :
    FVec Ideal S8192x4x32 .f32 :=
  shapeCast _ (rLin y W b) shapeCasts_S8192x128_S8192x4x32

theorem rHeads_apply (y : FVec Ideal S8192x128 .f32) (W : FVec Ideal S128x128 .f32) (b : FVec Ideal S128 .f32)
    (r : Fin 8192) (n : Fin 4) (e : Fin 32) :
    rHeads y W b (ix3 r n e) = lin (fun k => y (ix2 r k)) (fun k j => W (ix2 k j)) (fun j => b (ix1 j))
      ⟨32 * n.val + e.val, by omega⟩ := by
  rw [← rLin_apply]
  unfold rHeads
  pointwise
  exact congrArg (rLin y W b) (congrArg (ix2 r) (Fin.ext (by simp only []; omega)))

/-- The attention half. -/
def rAttnHalf (P : Par) (seg : Vec Ideal S8192 .i32) (h : FVec Ideal S8192x128 .f32) : FVec Ideal S8192x128 .f32 :=
  rOut h (rAttn seg (rPhi (rHeads (rLn h P.g1 P.b1) P.Wq P.bq)) (rPhi (rHeads (rLn h P.g1 P.b1) P.Wk P.bk))
    (rHeads (rLn h P.g1 P.b1) P.Wv P.bv)) P.Wo P.bo

/-- The feed-forward half. -/
def rFfHalf (P : Par) (h : FVec Ideal S8192x128 .f32) : FVec Ideal S8192x128 .f32 :=
  rFf h (rHid (rLn h P.g2 P.b2) P.W1 P.c1) P.W2 P.c2

/-- One layer. -/
def rLayer (P : Par) (seg : Vec Ideal S8192 .i32) (h : FVec Ideal S8192x128 .f32) : FVec Ideal S8192x128 .f32 :=
  rFfHalf P (rAttnHalf P seg h)

theorem rAttnHalf_apply (P : Par) {seg : Vec Ideal S8192 .i32} {ids : Fin 4 → Fin 2048 → BitVec 32} (H : IsSeg seg ids)
    (h : FVec Ideal S8192x128 .f32) (s : Fin 4) (m : Fin 2048) (d : Fin 128) :
    rAttnHalf P seg h (ix2 (tok s m) d) = attnHalf P.params (ids s) (fun t k => h (ix2 (tok s t) k)) m d := by
  unfold rAttnHalf
  rw [rOut_apply]
  simp only [rAttn_apply, rKV_apply H, rKS_apply H, rPhi_apply, rHeads_apply, rLn_apply]
  unfold attnHalf attn
  have hj : ∀ j : Fin 128, (⟨32 * (j.val / 32) + j.val % 32, by omega⟩ : Fin 128) = j := fun j => Fin.ext (by
    simp only []; omega)
  simp only [hj]
  rfl

theorem rFfHalf_apply (P : Par) (h : FVec Ideal S8192x128 .f32) (r : Fin 8192) (d : Fin 128) :
    rFfHalf P h (ix2 r d) = ffHalf P.params (fun k => h (ix2 r k)) d := by
  unfold rFfHalf
  rw [rFf_apply]
  simp only [rHid_apply, rLn_apply]
  rfl

theorem rLayer_apply (P : Par) {seg : Vec Ideal S8192 .i32} {ids : Fin 4 → Fin 2048 → BitVec 32} (H : IsSeg seg ids)
    (h : FVec Ideal S8192x128 .f32) (s : Fin 4) (m : Fin 2048) (d : Fin 128) :
    rLayer P seg h (ix2 (tok s m) d) = layer P.params (ids s) (fun t k => h (ix2 (tok s t) k)) m d := by
  unfold rLayer
  rw [rFfHalf_apply]
  simp only [rAttnHalf_apply P H]
  rfl

end Cert.RLayer

end
-- ==== Proof.RArr.lean ====
/- The reference's results are the encoded rows and the patch means of its arguments. -/
module

public import proofs.«01_k».proof.Proof.RLayer

@[expose] public section

set_option maxRecDepth 16384

noncomputable section

namespace Cert.RArr

open Idealize.ShloMosaic Idealize.ShloMosaic.TcCoe Idealize.ShloMosaic.StableHlo Cert.ReferenceIdeal Cert.ReferenceIdeal.Facts
open Cert.ReferenceIdeal.Gen Cert.ReferenceIdeal.Value Cert.Spec Cert.RVec Cert.RSeg Cert.RLayer

/-- The segment of every token. -/
def rSeg (ids : Vec Ideal S4x2048 .i32) : Vec Ideal S8192 .i32 :=
  shapeCast _ (addi (broadcastInDim S4x2048 ![0, 1] bcast_S4x1_S4x2048_0_1 (muli (broadcastInDim S4x1 ![0]
    bcast_S4_S4x1_0 (iotaInDim S4 32 0)) (broadcastInDim S4x1 ![] bcast_S_S4x1 (constantI S_ 32 128#32)))) ids)
    shapeCasts_S4x2048_S8192

theorem rSeg_isSeg (a : Args) (hr : a.InRange) : IsSeg (rSeg a.ids) a.sid := by
  intro s n
  obtain ⟨p, hp⟩ := hr s n
  refine ⟨p, hp, ?_⟩
  have hp' : a.ids (ix2 s n) = BitVec.ofNat 32 p.val := hp
  have e0 : (⟨(tok s n).val / 2048, by have := (tok s n).isLt; omega⟩ : Fin 4) = s := Fin.ext (by
    simp only [tok]; omega)
  have e1 : (⟨(tok s n).val % 2048, Nat.mod_lt _ (by norm_num)⟩ : Fin 2048) = n := Fin.ext (by simp only [tok]; omega)
  have e2 : (tok s n).val / 2048 = s.val := congrArg Fin.val e0
  unfold rSeg
  pointwise
  rw [e0, e1, e2, hp']
  show BitVec.ofNat 32 s.val * 128#32 + BitVec.ofNat 32 p.val = _
  refine BitVec.eq_of_toNat_eq ?_
  simp only [BitVec.toNat_add, BitVec.toNat_mul, BitVec.toNat_ofNat, grp]
  omega

/-- The input projection of every token. -/
def rProj (x : FVec Ideal S4x2048x128 .f32) (W : FVec Ideal S128x128 .f32) (b : FVec Ideal S128 .f32) :
    FVec Ideal S8192x128 .f32 :=
  shapeCast _ (addf (Host.dotGeneral dot_S4x2048x128_S128x128_S4x2048x128_2_0_01_1_n_n none x W) (broadcastInDim
    S4x2048x128 ![0, 1, 2] bcast_S1x1x128_S4x2048x128_0_1_2 (broadcastInDim S1x1x128 ![2] bcast_S128_S1x1x128_2 b)))
    shapeCasts_S4x2048x128_S8192x128

theorem rProj_apply (x : FVec Ideal S4x2048x128 .f32) (W : FVec Ideal S128x128 .f32) (b : FVec Ideal S128 .f32)
    (s : Fin 4) (n : Fin 2048) (j : Fin 128) :
    rProj x W b (ix2 (tok s n) j)
      = lin (fun k => x (ix3 s n k)) (fun k j => W (ix2 k j)) (fun j => b (ix1 j)) j := by
  have e0 : (⟨(tok s n).val / 2048, by have := (tok s n).isLt; omega⟩ : Fin 4) = s := Fin.ext (by
    simp only [tok]; omega)
  have e1 : (⟨(tok s n).val % 2048, Nat.mod_lt _ (by norm_num)⟩ : Fin 2048) = n := Fin.ext (by simp only [tok]; omega)
  unfold rProj
  pointwise
  rw [e0, e1]
  rfl

/-- The mean of every segment, its count at least one. -/
def rMean (seg : Vec Ideal S8192 .i32) (h : FVec Ideal S8192x128 .f32) : FVec Ideal S4x128x128 .f32 :=
  shapeCast _ (Host.divf (Host.scatterAdd scatter_S512x128_S8192x1_S8192x128_1_0_0_1 (broadcastInDim S512x128 ![]
    bcast_S_S512x128 (constant S_ .f32 0x00000000#32)) (broadcastInDim S8192x1 ![0] bcast_S8192_S8192x1_0 seg) h)
    (broadcastInDim S512x128 ![0, 1] bcast_S512x1_S512x128_0_1 (broadcastInDim S512x1 ![0] bcast_S512_S512x1_0
    (maximumf (Host.scatterAdd scatter_S512_S8192x1_S8192_n_0_0_1 (broadcastInDim S512 ![] bcast_S_S512 (constant S_
    .f32 0x00000000#32)) (broadcastInDim S8192x1 ![0] bcast_S8192_S8192x1_0 seg) (broadcastInDim S8192 ![]
    bcast_S_S8192 (constant S_ .f32 0x3F800000#32))) (broadcastInDim S512 ![] bcast_S_S512 (constant S_ .f32
    0x3F800000#32)))))) shapeCasts_S512x128_S4x128x128

theorem rMean_apply {seg : Vec Ideal S8192 .i32} {ids : Fin 4 → Fin 2048 → BitVec 32} (H : IsSeg seg ids)
    (h : FVec Ideal S8192x128 .f32) (s : Fin 4) (p d : Fin 128) :
    rMean seg h (ix3 s p d) = summary (ids s) (fun t k => h (ix2 (tok s t) k)) p d := by
  have eg : (⟨s.val * 128 + p.val, by omega⟩ : Fin 512) = grp s p := Fin.ext (by simp only [grp]; omega)
  unfold rMean
  pointwise
  rw [eg]
  unfold summary
  refine congrArg₂ Ideal.div ?_ (congrArg (max · 1) ?_)
  · refine (RScatter.rows_sum scatter_S512x128_S8192x1_S8192x128_1_0_0_1_wf _ _ _ (grp s p) d).trans ?_
    pointwise
    exact seg_sum H s p fun t => h (ix2 t d)
  · refine (RScatter.elts_sum scatter_S512_S8192x1_S8192_n_0_0_1_wf _ _ _ (grp s p)).trans ?_
    pointwise
    exact seg_sum H s p fun _ => 1

/-- Layer 0's parameters. -/
def par0 (a : Args) : Par where
  g1 := shapeCast _ (extractStridedSlice S1x128 ![0, 0] a.g1 slices_S2x128_S1x128_0_0) shapeCasts_S1x128_S128
  b1 := shapeCast _ (extractStridedSlice S1x128 ![0, 0] a.b1 slices_S2x128_S1x128_0_0) shapeCasts_S1x128_S128
  Wq := shapeCast _ (extractStridedSlice S1x128x128 ![0, 0, 0] a.Wq slices_S2x128x128_S1x128x128_0_0_0) shapeCasts_S1x128x128_S128x128
  bq := shapeCast _ (extractStridedSlice S1x128 ![0, 0] a.bq slices_S2x128_S1x128_0_0) shapeCasts_S1x128_S128
  Wk := shapeCast _ (extractStridedSlice S1x128x128 ![0, 0, 0] a.Wk slices_S2x128x128_S1x128x128_0_0_0) shapeCasts_S1x128x128_S128x128
  bk := shapeCast _ (extractStridedSlice S1x128 ![0, 0] a.bk slices_S2x128_S1x128_0_0) shapeCasts_S1x128_S128
  Wv := shapeCast _ (extractStridedSlice S1x128x128 ![0, 0, 0] a.Wv slices_S2x128x128_S1x128x128_0_0_0) shapeCasts_S1x128x128_S128x128
  bv := shapeCast _ (extractStridedSlice S1x128 ![0, 0] a.bv slices_S2x128_S1x128_0_0) shapeCasts_S1x128_S128
  Wo := shapeCast _ (extractStridedSlice S1x128x128 ![0, 0, 0] a.Wo slices_S2x128x128_S1x128x128_0_0_0) shapeCasts_S1x128x128_S128x128
  bo := shapeCast _ (extractStridedSlice S1x128 ![0, 0] a.bo slices_S2x128_S1x128_0_0) shapeCasts_S1x128_S128
  g2 := shapeCast _ (extractStridedSlice S1x128 ![0, 0] a.g2 slices_S2x128_S1x128_0_0) shapeCasts_S1x128_S128
  b2 := shapeCast _ (extractStridedSlice S1x128 ![0, 0] a.b2 slices_S2x128_S1x128_0_0) shapeCasts_S1x128_S128
  W1 := shapeCast _ (extractStridedSlice S1x128x512 ![0, 0, 0] a.W1 slices_S2x128x512_S1x128x512_0_0_0) shapeCasts_S1x128x512_S128x512
  c1 := shapeCast _ (extractStridedSlice S1x512 ![0, 0] a.c1 slices_S2x512_S1x512_0_0) shapeCasts_S1x512_S512
  W2 := shapeCast _ (extractStridedSlice S1x512x128 ![0, 0, 0] a.W2 slices_S2x512x128_S1x512x128_0_0_0) shapeCasts_S1x512x128_S512x128
  c2 := shapeCast _ (extractStridedSlice S1x128 ![0, 0] a.c2 slices_S2x128_S1x128_0_0) shapeCasts_S1x128_S128

theorem par0_params (a : Args) : (par0 a).params = a.params 0 := by
  unfold Par.params Args.params par0
  congr 1 <;> (first | (funext k j; pointwise; done) | (funext k; pointwise; done))

/-- Layer 1's parameters. -/
def par1 (a : Args) : Par where
  g1 := shapeCast _ (extractStridedSlice S1x128 ![1, 0] a.g1 slices_S2x128_S1x128_1_0) shapeCasts_S1x128_S128
  b1 := shapeCast _ (extractStridedSlice S1x128 ![1, 0] a.b1 slices_S2x128_S1x128_1_0) shapeCasts_S1x128_S128
  Wq := shapeCast _ (extractStridedSlice S1x128x128 ![1, 0, 0] a.Wq slices_S2x128x128_S1x128x128_1_0_0) shapeCasts_S1x128x128_S128x128
  bq := shapeCast _ (extractStridedSlice S1x128 ![1, 0] a.bq slices_S2x128_S1x128_1_0) shapeCasts_S1x128_S128
  Wk := shapeCast _ (extractStridedSlice S1x128x128 ![1, 0, 0] a.Wk slices_S2x128x128_S1x128x128_1_0_0) shapeCasts_S1x128x128_S128x128
  bk := shapeCast _ (extractStridedSlice S1x128 ![1, 0] a.bk slices_S2x128_S1x128_1_0) shapeCasts_S1x128_S128
  Wv := shapeCast _ (extractStridedSlice S1x128x128 ![1, 0, 0] a.Wv slices_S2x128x128_S1x128x128_1_0_0) shapeCasts_S1x128x128_S128x128
  bv := shapeCast _ (extractStridedSlice S1x128 ![1, 0] a.bv slices_S2x128_S1x128_1_0) shapeCasts_S1x128_S128
  Wo := shapeCast _ (extractStridedSlice S1x128x128 ![1, 0, 0] a.Wo slices_S2x128x128_S1x128x128_1_0_0) shapeCasts_S1x128x128_S128x128
  bo := shapeCast _ (extractStridedSlice S1x128 ![1, 0] a.bo slices_S2x128_S1x128_1_0) shapeCasts_S1x128_S128
  g2 := shapeCast _ (extractStridedSlice S1x128 ![1, 0] a.g2 slices_S2x128_S1x128_1_0) shapeCasts_S1x128_S128
  b2 := shapeCast _ (extractStridedSlice S1x128 ![1, 0] a.b2 slices_S2x128_S1x128_1_0) shapeCasts_S1x128_S128
  W1 := shapeCast _ (extractStridedSlice S1x128x512 ![1, 0, 0] a.W1 slices_S2x128x512_S1x128x512_1_0_0) shapeCasts_S1x128x512_S128x512
  c1 := shapeCast _ (extractStridedSlice S1x512 ![1, 0] a.c1 slices_S2x512_S1x512_1_0) shapeCasts_S1x512_S512
  W2 := shapeCast _ (extractStridedSlice S1x512x128 ![1, 0, 0] a.W2 slices_S2x512x128_S1x512x128_1_0_0) shapeCasts_S1x512x128_S512x128
  c2 := shapeCast _ (extractStridedSlice S1x128 ![1, 0] a.c2 slices_S2x128_S1x128_1_0) shapeCasts_S1x128_S128

theorem par1_params (a : Args) : (par1 a).params = a.params 1 := by
  unfold Par.params Args.params par1
  congr 1 <;> (first | (funext k j; pointwise; done) | (funext k; pointwise; done))

/-- The arguments, out of the reference's memory. -/
def argsOf (V : Valuation τ sig (Elt Ideal)) : Args where
  x := V (Proc.devRef .tc main_arg0)
  ids := V (Proc.devRef .tc main_arg1)
  Win := V (Proc.devRef .tc main_arg2)
  bin := V (Proc.devRef .tc main_arg3)
  g1 := V (Proc.devRef .tc main_arg4)
  b1 := V (Proc.devRef .tc main_arg5)
  Wq := V (Proc.devRef .tc main_arg6)
  bq := V (Proc.devRef .tc main_arg7)
  Wk := V (Proc.devRef .tc main_arg8)
  bk := V (Proc.devRef .tc main_arg9)
  Wv := V (Proc.devRef .tc main_arg10)
  bv := V (Proc.devRef .tc main_arg11)
  Wo := V (Proc.devRef .tc main_arg12)
  bo := V (Proc.devRef .tc main_arg13)
  g2 := V (Proc.devRef .tc main_arg14)
  b2 := V (Proc.devRef .tc main_arg15)
  W1 := V (Proc.devRef .tc main_arg16)
  c1 := V (Proc.devRef .tc main_arg17)
  W2 := V (Proc.devRef .tc main_arg18)
  c2 := V (Proc.devRef .tc main_arg19)

variable (V : Valuation τ sig (Elt Ideal))

theorem v6_eq : res_main_v6 V = rSeg (argsOf V).ids := rfl

theorem v11_eq : res_main_v11 V = rProj (argsOf V).x (argsOf V).Win (argsOf V).bin := rfl

theorem v33_eq : res_main_v33 V = rLn (res_main_v11 V) (par0 (argsOf V)).g1 (par0 (argsOf V)).b1 := rfl

theorem v42_eq : res_main_v42 V = rHeads (res_main_v33 V) (par0 (argsOf V)).Wq (par0 (argsOf V)).bq := rfl

theorem v51_eq : res_main_v51 V = rHeads (res_main_v33 V) (par0 (argsOf V)).Wk (par0 (argsOf V)).bk := rfl

theorem v113_eq : res_main_v113 V = rAttnHalf (par0 (argsOf V)) (res_main_v6 V) (res_main_v11 V) := rfl

theorem v153_eq : res_main_v153 V = rFfHalf (par0 (argsOf V)) (res_main_v113 V) := rfl

theorem v255_eq : res_main_v255 V = rAttnHalf (par1 (argsOf V)) (res_main_v6 V) (res_main_v153 V) := rfl

theorem v295_eq : res_main_v295 V = rFfHalf (par1 (argsOf V)) (res_main_v255 V) := rfl

/-- The encoded rows of every token. -/
theorem enc_eq (hr : (argsOf V).InRange) (s : Fin 4) (n : Fin 2048) (d : Fin 128) :
    res_main_v295 V (ix2 (tok s n) d) = (argsOf V).enc s n d := by
  have H := rSeg_isSeg (argsOf V) hr
  have h0 : res_main_v153 V = rLayer (par0 (argsOf V)) (rSeg (argsOf V).ids) (rProj (argsOf V).x (argsOf V).Win (argsOf V).bin) := by
    rw [v153_eq, v113_eq, v6_eq, v11_eq]
    rfl
  have h1 : res_main_v295 V = rLayer (par1 (argsOf V)) (rSeg (argsOf V).ids) (res_main_v153 V) := by
    rw [v295_eq, v255_eq, v6_eq]
    rfl
  rw [h1, rLayer_apply _ H, par1_params, h0]
  simp only [rLayer_apply _ H, par0_params, rProj_apply]
  rfl

/-- The first result. -/
theorem out0_eq (hr : (argsOf V).InRange) :
    shapeCast S4x2048x128 (res_main_v295 V) shapeCasts_S8192x128_S4x2048x128 = (argsOf V).out0 := by
  funext i
  idx_vars i
  refine Eq.trans ?_ (enc_eq V hr i0 i1 i2)
  pointwise
  exact congrArg (fun r => res_main_v295 V (ix2 r i2)) (Fin.ext (by simp only [tok]; omega))

/-- The second result. -/
theorem out1_eq (hr : (argsOf V).InRange) : rMean (res_main_v6 V) (res_main_v295 V) = (argsOf V).out1 := by
  funext i
  idx_vars i
  rw [v6_eq, rMean_apply (rSeg_isSeg (argsOf V) hr)]
  simp only [enc_eq V hr]
  rfl

end Cert.RArr

end
-- ==== Proof.Pre.lean ====
/- The precondition says that every patch index is one of the 128. -/
module

public import proofs.«01_k».proof.Defs
public import proofs.«01_k».proof.Proof.Gen.Pre_ids_in_range
public import proofs.«01_k».proof.Proof.KArr
public import Idealize.ShloMosaic.Lib.ReduceAll
public import Idealize.ShloMosaic.Lib.Affine

@[expose] public section

noncomputable section

namespace Cert.Pre

open Idealize.ShloMosaic Cert.KernelIdeal Cert.Spec

/-- A word that is not negative and is less than 128 is one of the 128 patch indices. -/
theorem word_in_range (x : BitVec 32) (h0 : (0#32).toInt ≤ x.toInt) (h1 : x.toInt < (128#32).toInt) :
    ∃ p : Fin 128, x = BitVec.ofNat 32 p.val := by
  have e0 : (0#32 : BitVec 32).toInt = 0 := by decide
  have e1 : (128#32 : BitVec 32).toInt = 128 := by decide
  rw [e0] at h0
  rw [e1] at h1
  have hx := x.isLt
  have hn : x.toNat < 128 := by
    rw [BitVec.toInt_eq_toNat_cond] at h0 h1
    split_ifs at h0 h1 <;> omega
  exact ⟨⟨x.toNat, hn⟩, BitVec.eq_of_toNat_eq (by simp only [BitVec.toNat_ofNat]; omega)⟩

theorem in_range (m : (ℓ : Loc nD τ sig) → Buf (Elt Ideal) ℓ)
    (h : Cert.Pre_KernelIdeal_ids_in_range (hPre_ids_in_range := Cert.Pre_ids_in_range.Gen.facts) m) (c : Dev nD) :
    (KArr.args m c).InRange := by
  intro s n
  have e := congrFun (h c) ix0
  dsimp only [Cert.Pre_ids_in_range.fn] at e
  have e' := Host.reduce_andi_all _ _ _ _ _ e (ix2 s n)
  obtain ⟨h0, h1⟩ := IntOp.andi_eq_one.1 e'
  exact word_in_range _ (IntOp.cmpi_sge.1 h0) (IntOp.cmpi_slt.1 h1)

end Cert.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealFrame
public import proofs.«01_k».proof.Proof.Gen.ReferenceIdeal
public import proofs.«01_k».proof.Proof.IdealBlocks
public import proofs.«01_k».proof.Proof.Gen.ReferenceIdeal.Run
public import proofs.«01_k».proof.Proof.Gen.Pre_ids_in_range
public import proofs.«01_k».proof.Proof.KArr
public import proofs.«01_k».proof.Proof.RArr
public import proofs.«01_k».proof.Proof.Pre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- The reference leaves every argument unchanged and every counter at zero: it is host operations only. -/
theorem frame_reference : Cert.quiescent_ReferenceIdeal := by
  intro m g _
  exact θ_run_mono (Cert.ReferenceIdeal.Value.run m g) fun r h =>
    ⟨fun c => (h c).2.2, sem_eq_zero_of_no_sems (by decide) r.2⟩

/-- Both results are the encoded rows and the patch means of the arguments. -/
theorem algebraic : Cert.algebraic_KernelIdeal_ReferenceIdeal_pre_ids_in_range
    (hKernelIdeal := Cert.KernelIdeal.Gen.facts) (hReferenceIdeal := Cert.ReferenceIdeal.Gen.facts)
    (hPre_ids_in_range := Cert.Pre_ids_in_range.Gen.facts) := by
  intro m g m' g' hpre hagree
  have hr := Cert.Pre.in_range m hpre
  have ha : ∀ c, Cert.RArr.argsOf (launchContents m' c) = Cert.KArr.args m c := fun c =>
    (Cert.Spec.Args.mk.injEq ..).mpr (hagree c)
  refine ⟨fun c => (Cert.KArr.args m c).out0, fun c => (Cert.KArr.args m c).out1, ?_, ?_⟩
  · exact θ_run_mono (Cert.KernelIdeal.Value.run_blocks m g) fun r h c =>
      ⟨(h c).1.trans (Cert.KArr.arr23 m c (hr c)), (h c).2.1.trans (Cert.KArr.arr24 m c (hr c)), (h c).2.2⟩
  · refine θ_run_mono (Cert.ReferenceIdeal.Value.run m' g') fun r h c => ?_
    have hr' : (Cert.RArr.argsOf (launchContents m' c)).InRange := by
      rw [ha c]
      exact hr c
    exact ⟨(h c).1.trans ((Cert.RArr.out0_eq _ hr').trans (by rw [ha c])),
      (h c).2.1.trans ((Cert.RArr.out1_eq _ hr').trans (by rw [ha c])), (h c).2.2⟩

theorem claim : Cert.Claim := ⟨Cert.Kernel.Gen.facts, Cert.KernelIdeal.Gen.facts, Cert.ReferenceIdeal.Gen.facts,
  Cert.Pre_ids_in_range.Gen.facts, fun m g _ => Cert.Kernel.Gen.frame m g, fun m g _ => Cert.KernelIdeal.Gen.frame m g,
  fun m g _ => Cert.KernelIdeal.Gen.frame m g, frame_reference, fun m g _ => frame_reference m g trivial, trivial,
  algebraic⟩

end Cert.Proof

end
